-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scan_finite [hPre_scan_finite : Cert.Pre_scan_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scan_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scan_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_scan_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_scan_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_scan_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scan_finite [hPre_scan_finite : Cert.Pre_scan_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scan_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scan_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_scan_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_scan_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_scan_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scan_finite [hKernelIdeal : Cert.KernelIdeal.Facts] [hPre_scan_finite : Cert.Pre_scan_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scan_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scan_finite [hReferenceIdeal : Cert.ReferenceIdeal.Facts] [hPre_scan_finite : Cert.Pre_scan_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scan_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scan_finite [hKernelIdeal : Cert.KernelIdeal.Facts] [hReferenceIdeal : Cert.ReferenceIdeal.Facts] [hPre_scan_finite : Cert.Pre_scan_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scan_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v5) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_scan_finite : Cert.Pre_scan_finite.Facts) (hPre_finite : Cert.Pre_finite.Facts),
    quiescent_Kernel (hKernel := hKernel)
    ∧ quiescent_KernelIdeal (hKernelIdeal := hKernelIdeal)
    ∧ quiescent_KernelIdeal_pre_scan_finite (hKernelIdeal := hKernelIdeal) (hPre_scan_finite := hPre_scan_finite)
    ∧ quiescent_ReferenceIdeal (hReferenceIdeal := hReferenceIdeal)
    ∧ quiescent_ReferenceIdeal_pre_scan_finite (hReferenceIdeal := hReferenceIdeal) (hPre_scan_finite := hPre_scan_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_scan_finite (hKernelIdeal := hKernelIdeal) (hReferenceIdeal := hReferenceIdeal) (hPre_scan_finite := hPre_scan_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S2048x5632 : Shape := ⟨2, ![2048, 5632]⟩
abbrev S1x5632x2048 : Shape := ⟨3, ![1, 5632, 2048]⟩
abbrev S2048x2048 : Shape := ⟨2, ![2048, 2048]⟩
abbrev S_ : Shape := ⟨0, ![]⟩

class Facts : Prop where
  bcast_S_S2048x5632 : S_.BroadcastsInDim S2048x5632 (![] : Fin 0 → Fin S2048x5632.rank)
  bcast_S_S1x5632x2048 : S_.BroadcastsInDim S1x5632x2048 (![] : Fin 0 → Fin S1x5632x2048.rank)
  bcast_S_S2048x2048 : S_.BroadcastsInDim S2048x2048 (![] : Fin 0 → Fin S2048x2048.rank)

variable [Facts]

def fn {F : FTy → Type} [FloatOps F] (main_arg0 : FVec F S2048x5632 .f32) (main_arg1 : FVec F S2048x5632 .f32) (main_arg2 : FVec F S1x5632x2048 .f32) (main_arg3 : FVec F S2048x2048 .f32) : IVec S2048x5632 1 × IVec S1x5632x2048 1 × IVec S2048x2048 1 :=
  let main_v0 : FVec F S2048x5632 .f32 := Host.absf main_arg1
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_v3 : FVec F S1x5632x2048 .f32 := Host.absf main_arg2
  let main_cst_0 : FVec F S_ .f32 := constant S_ .f32 0x7F800000#32
  let main_v4 : FVec F S1x5632x2048 .f32 := broadcastInDim S1x5632x2048 ![] bcast_S_S1x5632x2048 main_cst_0
  let main_v5 : IVec S1x5632x2048 1 := cmpf .olt main_v3 main_v4
  let main_v6 : FVec F S2048x2048 .f32 := Host.absf main_arg3
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  (main_v2, main_v5, main_v8)
-- ==== Pre_scan_finite.lean ====
abbrev S2048x6144 : Shape := ⟨2, ![2048, 6144]⟩
abbrev S2048x128 : Shape := ⟨2, ![2048, 128]⟩
abbrev S2x64 : Shape := ⟨2, ![2, 64]⟩
abbrev S2x16x8x8x64x128 : Shape := ⟨6, ![2, 16, 8, 8, 64, 128]⟩
abbrev S2048x4096 : Shape := ⟨2, ![2048, 4096]⟩
abbrev S64 : Shape := ⟨1, ![64]⟩
abbrev S_ : Shape := ⟨0, ![]⟩

class Facts : Prop where
  bcast_S_S2048x6144 : S_.BroadcastsInDim S2048x6144 (![] : Fin 0 → Fin S2048x6144.rank)
  bcast_S_S2048x128 : S_.BroadcastsInDim S2048x128 (![] : Fin 0 → Fin S2048x128.rank)
  bcast_S_S2x64 : S_.BroadcastsInDim S2x64 (![] : Fin 0 → Fin S2x64.rank)
  bcast_S_S2x16x8x8x64x128 : S_.BroadcastsInDim S2x16x8x8x64x128 (![] : Fin 0 → Fin S2x16x8x8x64x128.rank)
  bcast_S_S2048x4096 : S_.BroadcastsInDim S2048x4096 (![] : Fin 0 → Fin S2048x4096.rank)

variable [Facts]

def fn {F : FTy → Type} [FloatOps F] (main_arg0 : FVec F S2048x6144 .f32) (main_arg1 : FVec F S2048x128 .f32) (main_arg2 : FVec F S2x64 .f32) (main_arg3 : FVec F S2x16x8x8x64x128 .f32) (main_arg4 : FVec F S2048x4096 .f32) (main_arg5 : FVec F S64 .f32) : IVec S2048x6144 1 × IVec S2048x128 1 × IVec S2x64 1 × IVec S2x16x8x8x64x128 1 × IVec S2048x4096 1 :=
  let main_v0 : FVec F S2048x6144 .f32 := Host.absf main_arg0
  let main_cst : FVec F S_ .f32 := constant S_ .f32 0x7F800000#32
  let main_v1 : FVec F S2048x6144 .f32 := broadcastInDim S2048x6144 ![] bcast_S_S2048x6144 main_cst
  let main_v2 : IVec S2048x6144 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S2x64 .f32 := Host.absf main_arg2
  let main_cst_1 : FVec F S_ .f32 := constant S_ .f32 0x7F800000#32
  let main_v7 : FVec F S2x64 .f32 := broadcastInDim S2x64 ![] bcast_S_S2x64 main_cst_1
  let main_v8 : IVec S2x64 1 := cmpf .olt main_v6 main_v7
  let main_v9 : FVec F S2x16x8x8x64x128 .f32 := Host.absf main_arg3
  let main_cst_2 : FVec F S_ .f32 := constant S_ .f32 0x7F800000#32
  let main_v10 : FVec F S2x16x8x8x64x128 .f32 := broadcastInDim S2x16x8x8x64x128 ![] bcast_S_S2x16x8x8x64x128 main_cst_2
  let main_v11 : IVec S2x16x8x8x64x128 1 := cmpf .olt main_v9 main_v10
  let main_v12 : FVec F S2048x4096 .f32 := Host.absf main_arg4
  let main_cst_3 : FVec F S_ .f32 := constant S_ .f32 0x7F800000#32
  let main_v13 : FVec F S2048x4096 .f32 := broadcastInDim S2048x4096 ![] bcast_S_S2048x4096 main_cst_3
  let main_v14 : IVec S2048x4096 1 := cmpf .olt main_v12 main_v13
  (main_v2, main_v5, main_v8, main_v11, main_v14)
-- ==== Kernel.lean ====
abbrev S2048x6144 : Shape := ⟨2, ![2048, 6144]⟩
abbrev S2048x128 : Shape := ⟨2, ![2048, 128]⟩
abbrev S2x64 : Shape := ⟨2, ![2, 64]⟩
abbrev S2x16x8x8x64x128 : Shape := ⟨6, ![2, 16, 8, 8, 64, 128]⟩
abbrev S2048x4096 : Shape := ⟨2, ![2048, 4096]⟩
abbrev S64 : Shape := ⟨1, ![64]⟩
abbrev S1x16x8x8x64x128 : Shape := ⟨6, ![1, 16, 8, 8, 64, 128]⟩
abbrev S16x8x8x64x128 : Shape := ⟨5, ![16, 8, 8, 64, 128]⟩
abbrev S2x8x16x128x8x64 : Shape := ⟨6, ![2, 8, 16, 128, 8, 64]⟩
abbrev S2x8x16x128x512 : Shape := ⟨5, ![2, 8, 16, 128, 512]⟩
abbrev S64x64 : Shape := ⟨2, ![64, 64]⟩
abbrev S4096 : Shape := ⟨1, ![4096]⟩
abbrev S1x4096 : Shape := ⟨2, ![1, 4096]⟩
abbrev S2048x2x8x8 : Shape := ⟨4, ![2048, 2, 8, 8]⟩
abbrev S2x8x2048x8 : Shape := ⟨4, ![2, 8, 2048, 8]⟩
abbrev S2x8x1x8 : Shape := ⟨4, ![2, 8, 1, 8]⟩
abbrev S2x2048x4096 : Shape := ⟨3, ![2, 2048, 4096]⟩
abbrev S2x2048x1024 : Shape := ⟨3, ![2, 2048, 1024]⟩
abbrev S128x512 : Shape := ⟨2, ![128, 512]⟩
abbrev S128x128 : Shape := ⟨2, ![128, 128]⟩
abbrev S1x1x128x8 : Shape := ⟨4, ![1, 1, 128, 8]⟩
abbrev S1x1x1x8 : Shape := ⟨4, ![1, 1, 1, 8]⟩
abbrev S1x1x1x128x512 : Shape := ⟨5, ![1, 1, 1, 128, 512]⟩
abbrev S1x512 : Shape := ⟨2, ![1, 512]⟩
abbrev S1x128x512 : Shape := ⟨3, ![1, 128, 512]⟩
abbrev S1x128x128 : Shape := ⟨3, ![1, 128, 128]⟩
abbrev S8x128 : Shape := ⟨2, ![8, 128]⟩
abbrev S1x8 : Shape := ⟨2, ![1, 8]⟩
abbrev S128x8 : Shape := ⟨2, ![128, 8]⟩
abbrev S8 : Shape := ⟨1, ![8]⟩
abbrev S8x512 : Shape := ⟨2, ![8, 512]⟩
abbrev S8x8 : Shape := ⟨2, ![8, 8]⟩
abbrev S128x1 : Shape := ⟨2, ![128, 1]⟩
abbrev S1x128 : Shape := ⟨2, ![1, 128]⟩
abbrev S128 : Shape := ⟨1, ![128]⟩
abbrev S512 : Shape := ⟨1, ![512]⟩

abbrev nBuf : Space → Nat
  | .hbm => 27
  | .vmem => 29
  | .smem => 0
  | _ => 0

abbrev bufTy : (tb : Table) → Fin (tcTables nBuf tb) → BufTy
  | .hbm, ⟨0, _⟩ => ⟨S2048x6144, .f32⟩
  | .hbm, ⟨1, _⟩ => ⟨S2048x128, .f32⟩
  | .hbm, ⟨2, _⟩ => ⟨S2x64, .f32⟩
  | .hbm, ⟨3, _⟩ => ⟨S2x16x8x8x64x128, .f32⟩
  | .hbm, ⟨4, _⟩ => ⟨S2048x4096, .f32⟩
  | .hbm, ⟨5, _⟩ => ⟨S64, .f32⟩
  | .hbm, ⟨6, _⟩ => ⟨S1x16x8x8x64x128, .f32⟩
  | .hbm, ⟨7, _⟩ => ⟨S16x8x8x64x128, .f32⟩
  | .hbm, ⟨8, _⟩ => ⟨S1x16x8x8x64x128, .f32⟩
  | .hbm, ⟨9, _⟩ => ⟨S16x8x8x64x128, .f32⟩
  | .hbm, ⟨10, _⟩ => ⟨S16x8x8x64x128, .f32⟩
  | .hbm, ⟨11, _⟩ => ⟨S1x16x8x8x64x128, .f32⟩
  | .hbm, ⟨12, _⟩ => ⟨S1x16x8x8x64x128, .f32⟩
  | .hbm, ⟨13, _⟩ => ⟨S2x16x8x8x64x128, .f32⟩
  | .hbm, ⟨14, _⟩ => ⟨S2x8x16x128x8x64, .f32⟩
  | .hbm, ⟨15, _⟩ => ⟨S2x8x16x128x512, .f32⟩
  | .hbm, ⟨16, _⟩ => ⟨S64x64, .f32⟩
  | .hbm, ⟨17, _⟩ => ⟨S4096, .f32⟩
  | .hbm, ⟨18, _⟩ => ⟨S1x4096, .f32⟩
  | .hbm, ⟨19, _⟩ => ⟨S2048x2x8x8, .f32⟩
  | .hbm, ⟨20, _⟩ => ⟨S2x8x2048x8, .f32⟩
  | .hbm, ⟨21, _⟩ => ⟨S2x8x1x8, .f32⟩
  | .hbm, ⟨22, _⟩ => ⟨S2x2048x4096, .f32⟩
  | .hbm, ⟨23, _⟩ => ⟨S2x2048x1024, .f32⟩
  | .hbm, ⟨24, _⟩ => ⟨S2x2048x1024, .f32⟩
  | .hbm, ⟨25, _⟩ => ⟨S2x8x2048x8, .f32⟩
  | .hbm, ⟨26, _⟩ => ⟨S2x8x1x8, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x1x128x8, .f32⟩
  | .local _ .vmem, ⟨7, _⟩ => ⟨S1x1x128x8, .f32⟩
  | .local _ .vmem, ⟨8, _⟩ => ⟨S1x1x1x8, .f32⟩
  | .local _ .vmem, ⟨9, _⟩ => ⟨S1x1x1x8, .f32⟩
  | .local _ .vmem, ⟨10, _⟩ => ⟨S1x1x1x128x512, .f32⟩
  | .local _ .vmem, ⟨11, _⟩ => ⟨S1x1x1x128x512, .f32⟩
  | .local _ .vmem, ⟨12, _⟩ => ⟨S128x512, .f32⟩
  | .local _ .vmem, ⟨13, _⟩ => ⟨S128x512, .f32⟩
  | .local _ .vmem, ⟨14, _⟩ => ⟨S1x512, .f32⟩
  | .local _ .vmem, ⟨15, _⟩ => ⟨S1x512, .f32⟩
  | .local _ .vmem, ⟨16, _⟩ => ⟨S1x128x512, .f32⟩
  | .local _ .vmem, ⟨17, _⟩ => ⟨S1x128x512, .f32⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x1x128x8, .f32⟩
  | .local _ .vmem, ⟨23, _⟩ => ⟨S1x1x128x8, .f32⟩
  | .local _ .vmem, ⟨24, _⟩ => ⟨S1x1x1x8, .f32⟩
  | .local _ .vmem, ⟨25, _⟩ => ⟨S1x1x1x8, .f32⟩
  | .local _ .vmem, ⟨26, _⟩ => ⟨S128x512, .f32⟩
  | .local _ .vmem, ⟨27, _⟩ => ⟨S128x512, .f32⟩
  | .local _ .vmem, ⟨28, _⟩ => ⟨S8x128, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev main_v16_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c2_i32 : BitVec 32 := 2#32
  let v1 : BitVec 32 := Scalar.muli c2_i32 arg2
  let c16_i32 : BitVec 32 := 16#32
  let v2 : BitVec 32 := Scalar.subi v1 c16_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  ![v5.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c2_i32 : BitVec 32 := 2#32
  let v1 : BitVec 32 := Scalar.muli c2_i32 arg2
  let c16_i32 : BitVec 32 := 16#32
  let v2 : BitVec 32 := Scalar.subi v1 c16_i32
  let c1_i32 : BitVec 32 := 1#32
  let v3 : BitVec 32 := Scalar.addi v2 c1_i32
  let v4 : BitVec 32 := Scalar.muli arg0 v3
  let v5 : BitVec 32 := Scalar.addi v0 v4
  let c32_i32 : BitVec 32 := 32#32
  let v6 : BitVec 32 := Scalar.addi c32_i32 arg1
  let c0_i32 : BitVec 32 := 0#32
  ![v5.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c2_i32 : BitVec 32 := 2#32
  let v1 : BitVec 32 := Scalar.muli c2_i32 arg2
  let c16_i32 : BitVec 32 := 16#32
  let v2 : BitVec 32 := Scalar.subi v1 c16_i32
  let c1_i32 : BitVec 32 := 1#32
  let v3 : BitVec 32 := Scalar.addi v2 c1_i32
  let v4 : BitVec 32 := Scalar.muli arg0 v3
  let v5 : BitVec 32 := Scalar.addi v0 v4
  let c40_i32 : BitVec 32 := 40#32
  let v6 : BitVec 32 := Scalar.addi c40_i32 arg1
  let c0_i32 : BitVec 32 := 0#32
  ![v5.toNat, v6.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c2_i32 : BitVec 32 := 2#32
  let v1 : BitVec 32 := Scalar.muli c2_i32 arg2
  let c16_i32 : BitVec 32 := 16#32
  let v2 : BitVec 32 := Scalar.subi v1 c16_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  let c0_i32_0 : BitVec 32 := 0#32
  ![arg0.toNat, arg1.toNat, v5.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c2_i32 : BitVec 32 := 2#32
  let v1 : BitVec 32 := Scalar.muli c2_i32 arg2
  let c16_i32 : BitVec 32 := 16#32
  let v2 : BitVec 32 := Scalar.subi v1 c16_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  let c0_i32_0 : BitVec 32 := 0#32
  let c0_i32_1 : BitVec 32 := 0#32
  ![arg0.toNat, arg1.toNat, v5.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c2_i32 : BitVec 32 := 2#32
  let v1 : BitVec 32 := Scalar.muli c2_i32 arg2
  let c16_i32 : BitVec 32 := 16#32
  let v2 : BitVec 32 := Scalar.subi v1 c16_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  ![v5.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c2_i32 : BitVec 32 := 2#32
  let v1 : BitVec 32 := Scalar.muli c2_i32 arg2
  let c16_i32 : BitVec 32 := 16#32
  let v2 : BitVec 32 := Scalar.subi v1 c16_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  ![arg0.toNat, v5.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c2_i32 : BitVec 32 := 2#32
  let v1 : BitVec 32 := Scalar.muli c2_i32 arg2
  let c16_i32 : BitVec 32 := 16#32
  let v2 : BitVec 32 := Scalar.subi v1 c16_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  ![arg0.toNat, v5.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c2_i32 : BitVec 32 := 2#32
  let v1 : BitVec 32 := Scalar.muli c2_i32 arg2
  let c16_i32 : BitVec 32 := 16#32
  let v2 : BitVec 32 := Scalar.subi v1 c16_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  ![arg0.toNat, v5.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c2_i32 : BitVec 32 := 2#32
  let v1 : BitVec 32 := Scalar.muli c2_i32 arg2
  let c16_i32 : BitVec 32 := 16#32
  let v2 : BitVec 32 := Scalar.subi v1 c16_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  let c0_i32_0 : BitVec 32 := 0#32
  ![arg0.toNat, arg1.toNat, v5.toNat, c0_i32.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x128x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x1x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S2048x6144 : Shape := ⟨2, ![2048, 6144]⟩
abbrev S2048x128 : Shape := ⟨2, ![2048, 128]⟩
abbrev S2x64 : Shape := ⟨2, ![2, 64]⟩
abbrev S2x16x8x8x64x128 : Shape := ⟨6, ![2, 16, 8, 8, 64, 128]⟩
abbrev S2048x4096 : Shape := ⟨2, ![2048, 4096]⟩
abbrev S64 : Shape := ⟨1, ![64]⟩
abbrev S2048x1024 : Shape := ⟨2, ![2048, 1024]⟩
abbrev S2048x64x64 : Shape := ⟨3, ![2048, 64, 64]⟩
abbrev S1x2048x64x64 : Shape := ⟨4, ![1, 2048, 64, 64]⟩
abbrev S2x2048x64x64 : Shape := ⟨4, ![2, 2048, 64, 64]⟩
abbrev S2048x8x128 : Shape := ⟨3, ![2048, 8, 128]⟩
abbrev S1x2048x8x128 : Shape := ⟨4, ![1, 2048, 8, 128]⟩
abbrev S2x2048x8x128 : Shape := ⟨4, ![2, 2048, 8, 128]⟩
abbrev S2048x2x64 : Shape := ⟨3, ![2048, 2, 64]⟩
abbrev S2048x1x64 : Shape := ⟨3, ![2048, 1, 64]⟩
abbrev S2048x64 : Shape := ⟨2, ![2048, 64]⟩
abbrev S1x2048x64 : Shape := ⟨3, ![1, 2048, 64]⟩
abbrev S2x2048x64 : Shape := ⟨3, ![2, 2048, 64]⟩
abbrev S2x1x64 : Shape := ⟨3, ![2, 1, 64]⟩
abbrev S2x2048x64x1 : Shape := ⟨4, ![2, 2048, 64, 1]⟩
abbrev S2x16x128x8x8x64 : Shape := ⟨6, ![2, 16, 128, 8, 8, 64]⟩
abbrev S2x16x128x8x128 : Shape := ⟨5, ![2, 16, 128, 8, 128]⟩
abbrev S2x16x128x8x8 : Shape := ⟨5, ![2, 16, 128, 8, 8]⟩
abbrev S_ : Shape := ⟨0, ![]⟩
abbrev S128x128 : Shape := ⟨2, ![128, 128]⟩
abbrev S128x128x1x1 : Shape := ⟨4, ![128, 128, 1, 1]⟩
abbrev S2x16x128x1x8x8 : Shape := ⟨6, ![2, 16, 128, 1, 8, 8]⟩
abbrev S2x16x1x128x8x8 : Shape := ⟨6, ![2, 16, 1, 128, 8, 8]⟩
abbrev S2x16x128x128x8x8 : Shape := ⟨6, ![2, 16, 128, 128, 8, 8]⟩
abbrev S2x16x8x128x128 : Shape := ⟨5, ![2, 16, 8, 128, 128]⟩
abbrev S2x16x128x128x8 : Shape := ⟨5, ![2, 16, 128, 128, 8]⟩
abbrev S2x16x128x128x8x1 : Shape := ⟨6, ![2, 16, 128, 128, 8, 1]⟩
abbrev S2x16x128x8x8x1 : Shape := ⟨6, ![2, 16, 128, 8, 8, 1]⟩
abbrev S2x16x8x8x128x128 : Shape := ⟨6, ![2, 16, 8, 8, 128, 128]⟩
abbrev S2x2048x1024 : Shape := ⟨3, ![2, 2048, 1024]⟩

abbrev nBuf : Space → Nat
  | .hbm => 120
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x128, .f32⟩
  | .hbm, ⟨2, _⟩ => ⟨S2x64, .f32⟩
  | .hbm, ⟨3, _⟩ => ⟨S2x16x8x8x64x128, .f32⟩
  | .hbm, ⟨4, _⟩ => ⟨S2048x4096, .f32⟩
  | .hbm, ⟨5, _⟩ => ⟨S64, .f32⟩
  | .hbm, ⟨6, _⟩ => ⟨S2048x4096, .f32⟩
  | .hbm, ⟨7, _⟩ => ⟨S2048x1024, .f32⟩
  | .hbm, ⟨8, _⟩ => ⟨S2048x1024, .f32⟩
  | .hbm, ⟨9, _⟩ => ⟨S2048x64x64, .f32⟩
  | .hbm, ⟨10, _⟩ => ⟨S2048x64x64, .f32⟩
  | .hbm, ⟨11, _⟩ => ⟨S1x2048x64x64, .f32⟩
  | .hbm, ⟨12, _⟩ => ⟨S1x2048x64x64, .f32⟩
  | .hbm, ⟨13, _⟩ => ⟨S2x2048x64x64, .f32⟩
  | .hbm, ⟨14, _⟩ => ⟨S2048x8x128, .f32⟩
  | .hbm, ⟨15, _⟩ => ⟨S2048x8x128, .f32⟩
  | .hbm, ⟨16, _⟩ => ⟨S1x2048x8x128, .f32⟩
  | .hbm, ⟨17, _⟩ => ⟨S1x2048x8x128, .f32⟩
  | .hbm, ⟨18, _⟩ => ⟨S2x2048x8x128, .f32⟩
  | .hbm, ⟨19, _⟩ => ⟨S2048x8x128, .f32⟩
  | .hbm, ⟨20, _⟩ => ⟨S2048x8x128, .f32⟩
  | .hbm, ⟨21, _⟩ => ⟨S1x2048x8x128, .f32⟩
  | .hbm, ⟨22, _⟩ => ⟨S1x2048x8x128, .f32⟩
  | .hbm, ⟨23, _⟩ => ⟨S2x2048x8x128, .f32⟩
  | .hbm, ⟨24, _⟩ => ⟨S2048x2x64, .f32⟩
  | .hbm, ⟨25, _⟩ => ⟨S2048x1x64, .f32⟩
  | .hbm, ⟨26, _⟩ => ⟨S2048x64, .f32⟩
  | .hbm, ⟨27, _⟩ => ⟨S2048x1x64, .f32⟩
  | .hbm, ⟨28, _⟩ => ⟨S2048x64, .f32⟩
  | .hbm, ⟨29, _⟩ => ⟨S2048x64, .f32⟩
  | .hbm, ⟨30, _⟩ => ⟨S1x2048x64, .f32⟩
  | .hbm, ⟨31, _⟩ => ⟨S1x2048x64, .f32⟩
  | .hbm, ⟨32, _⟩ => ⟨S2x2048x64, .f32⟩
  | .hbm, ⟨33, _⟩ => ⟨S2x64, .f32⟩
  | .hbm, ⟨34, _⟩ => ⟨S2x1x64, .f32⟩
  | .hbm, ⟨35, _⟩ => ⟨S2x1x64, .f32⟩
  | .hbm, ⟨36, _⟩ => ⟨S2x2048x64x1, .f32⟩
  | .hbm, ⟨37, _⟩ => ⟨S2x2048x64x64, .f32⟩
  | .hbm, ⟨38, _⟩ => ⟨S2x2048x64x64, .f32⟩
  | .hbm, ⟨39, _⟩ => ⟨S2x16x128x8x8x64, .f32⟩
  | .hbm, ⟨40, _⟩ => ⟨S2x16x128x8x128, .f32⟩
  | .hbm, ⟨41, _⟩ => ⟨S2x16x128x8x128, .f32⟩
  | .hbm, ⟨42, _⟩ => ⟨S2x2048x64, .f32⟩
  | .hbm, ⟨43, _⟩ => ⟨S2x2048x64, .f32⟩
  | .hbm, ⟨44, _⟩ => ⟨S2x16x128x8x8, .f32⟩
  | .hbm, ⟨45, _⟩ => ⟨S_, .f32⟩
  | .hbm, ⟨46, _⟩ => ⟨S_, .f32⟩
  | .hbm, ⟨47, _⟩ => ⟨S2x16x128x8x8, .f32⟩
  | .hbm, ⟨48, _⟩ => ⟨S_, .i1⟩
  | .hbm, ⟨49, _⟩ => ⟨S128x128, .i1⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i32⟩
  | .hbm, ⟨54, _⟩ => ⟨S128x128, .i32⟩
  | .hbm, ⟨55, _⟩ => ⟨S128x128, .i1⟩
  | .hbm, ⟨56, _⟩ => ⟨S_, .i1⟩
  | .hbm, ⟨57, _⟩ => ⟨S128x128, .i1⟩
  | .hbm, ⟨58, _⟩ => ⟨S128x128, .i1⟩
  | .hbm, ⟨59, _⟩ => ⟨S128x128x1x1, .i1⟩
  | .hbm, ⟨60, _⟩ => ⟨S2x16x128x1x8x8, .f32⟩
  | .hbm, ⟨61, _⟩ => ⟨S2x16x1x128x8x8, .f32⟩
  | .hbm, ⟨62, _⟩ => ⟨S2x16x128x128x8x8, .f32⟩
  | .hbm, ⟨63, _⟩ => ⟨S2x16x128x128x8x8, .f32⟩
  | .hbm, ⟨64, _⟩ => ⟨S2x16x128x128x8x8, .f32⟩
  | .hbm, ⟨65, _⟩ => ⟨S_, .f32⟩
  | .hbm, ⟨66, _⟩ => ⟨S_, .f32⟩
  | .hbm, ⟨67, _⟩ => ⟨S2x16x128x128x8x8, .i1⟩
  | .hbm, ⟨68, _⟩ => ⟨S2x16x128x128x8x8, .f32⟩
  | .hbm, ⟨69, _⟩ => ⟨S2x16x128x128x8x8, .f32⟩
  | .hbm, ⟨70, _⟩ => ⟨S2x16x128x128x8x8, .f32⟩
  | .hbm, ⟨71, _⟩ => ⟨S2x16x8x128x128, .f32⟩
  | .hbm, ⟨72, _⟩ => ⟨S2x16x128x128x8, .f32⟩
  | .hbm, ⟨73, _⟩ => ⟨S2x16x128x128x8x1, .f32⟩
  | .hbm, ⟨74, _⟩ => ⟨S2x16x128x128x8x8, .f32⟩
  | .hbm, ⟨75, _⟩ => ⟨S2x16x128x128x8x8, .f32⟩
  | .hbm, ⟨76, _⟩ => ⟨S2x16x8x8x64x128, .f32⟩
  | .hbm, ⟨77, _⟩ => ⟨S2x16x128x8x8x64, .f32⟩
  | .hbm, ⟨78, _⟩ => ⟨S2x16x128x8x8, .f32⟩
  | .hbm, ⟨79, _⟩ => ⟨S2x16x128x8x8x1, .f32⟩
  | .hbm, ⟨80, _⟩ => ⟨S2x16x8x8x64x128, .f32⟩
  | .hbm, ⟨81, _⟩ => ⟨S2x16x128x8x8x64, .f32⟩
  | .hbm, ⟨82, _⟩ => ⟨S2x16x128x8x8x64, .f32⟩
  | .hbm, ⟨83, _⟩ => ⟨S2x16x128x8x8x64, .f32⟩
  | .hbm, ⟨84, _⟩ => ⟨S2x16x128x8x8x64, .f32⟩
  | .hbm, ⟨85, _⟩ => ⟨S2x2048x64x64, .f32⟩
  | .hbm, ⟨86, _⟩ => ⟨S2048x64x64, .f32⟩
  | .hbm, ⟨87, _⟩ => ⟨S2048x64x64, .f32⟩
  | .hbm, ⟨88, _⟩ => ⟨S1x2048x64x64, .f32⟩
  | .hbm, ⟨89, _⟩ => ⟨S1x2048x64x64, .f32⟩
  | .hbm, ⟨90, _⟩ => ⟨S2x2048x64x64, .f32⟩
  | .hbm, ⟨91, _⟩ => ⟨S2x16x128x8x8x64, .f32⟩
  | .hbm, ⟨92, _⟩ => ⟨S2x16x128x8x8x64, .f32⟩
  | .hbm, ⟨93, _⟩ => ⟨S2x16x128x8x8x64, .f32⟩
  | .hbm, ⟨94, _⟩ => ⟨S2x16x8x8x64x128, .f32⟩
  | .hbm, ⟨95, _⟩ => ⟨S2x16x8x128x128, .f32⟩
  | .hbm, ⟨96, _⟩ => ⟨S2x16x128x8x128, .f32⟩
  | .hbm, ⟨97, _⟩ => ⟨S2x16x8x8x64x128, .f32⟩
  | .hbm, ⟨98, _⟩ => ⟨S2x16x8x8x128x128, .f32⟩
  | .hbm, ⟨99, _⟩ => ⟨S2x16x128x128x8x8, .f32⟩
  | .hbm, ⟨100, _⟩ => ⟨S2x16x128x128x8x8, .f32⟩
  | .hbm, ⟨101, _⟩ => ⟨S_, .f32⟩
  | .hbm, ⟨102, _⟩ => ⟨S2x16x128x128x8, .f32⟩
  | .hbm, ⟨103, _⟩ => ⟨S2x16x128x128x8x1, .f32⟩
  | .hbm, ⟨104, _⟩ => ⟨S_, .f32⟩
  | .hbm, ⟨105, _⟩ => ⟨S2x16x128x128x8, .f32⟩
  | .hbm, ⟨106, _⟩ => ⟨S2x16x8x128x128, .f32⟩
  | .hbm, ⟨107, _⟩ => ⟨S2x16x8x128x128, .f32⟩
  | .hbm, ⟨108, _⟩ => ⟨S2x16x128x8x128, .f32⟩
  | .hbm, ⟨109, _⟩ => ⟨S2x16x128x8x128, .f32⟩
  | .hbm, ⟨110, _⟩ => ⟨S2x2048x8x128, .f32⟩
  | .hbm, ⟨111, _⟩ => ⟨S1x2048x8x128, .f32⟩
  | .hbm, ⟨112, _⟩ => ⟨S2048x8x128, .f32⟩
  | .hbm, ⟨113, _⟩ => ⟨S1x2048x8x128, .f32⟩
  | .hbm, ⟨114, _⟩ => ⟨S2048x8x128, .f32⟩
  | .hbm, ⟨115, _⟩ => ⟨S2048x8x128, .f32⟩
  | .hbm, ⟨116, _⟩ => ⟨S1x2048x8x128, .f32⟩
  | .hbm, ⟨117, _⟩ => ⟨S1x2048x8x128, .f32⟩
  | .hbm, ⟨118, _⟩ => ⟨S2x2048x8x128, .f32⟩
  | .hbm, ⟨119, _⟩ => ⟨S2x2048x1024, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_call4_call0_cst : Ref sig .tc := ⟨.hbm, 45, rfl⟩
abbrev main_call4_call0_v0 : Ref sig .tc := ⟨.hbm, 46, rfl⟩
abbrev main_v39 : Ref sig .tc := ⟨.hbm, 47, rfl⟩
abbrev main_c : Ref sig .tc := ⟨.hbm, 48, rfl⟩
abbrev main_v40 : Ref sig .tc := ⟨.hbm, 49, rfl⟩
abbrev main_call5_v0 : Ref sig .tc := ⟨.hbm, 50, rfl⟩
abbrev main_call5_c : Ref sig .tc := ⟨.hbm, 51, rfl⟩
abbrev main_call5_v1 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_call5_c_0 : Ref sig .tc := ⟨.hbm, 56, rfl⟩
abbrev main_call5_v5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst : Ref sig .tc := ⟨.hbm, 65, rfl⟩
abbrev main_call6_v0 : Ref sig .tc := ⟨.hbm, 66, rfl⟩
abbrev main_call6_v1 : Ref sig .tc := ⟨.hbm, 67, rfl⟩
abbrev main_call6_v2 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_0 : Ref sig .tc := ⟨.hbm, 101, rfl⟩
abbrev main_v80 : Ref sig .tc := ⟨.hbm, 102, rfl⟩
abbrev main_v81 : Ref sig .tc := ⟨.hbm, 103, rfl⟩
abbrev main_cst_1 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩

abbrev nD : Nat := 1
abbrev τ : Topo := Topo.v7x

variable {F : FTy → Type} [FloatOps F]
-- ==== Kernel2.lean ====
abbrev S2048x5632 : Shape := ⟨2, ![2048, 5632]⟩
abbrev S1x5632x2048 : Shape := ⟨3, ![1, 5632, 2048]⟩
abbrev S2048x2048 : Shape := ⟨2, ![2048, 2048]⟩
abbrev S512x2048 : Shape := ⟨2, ![512, 2048]⟩
abbrev S1x1408x2048 : Shape := ⟨3, ![1, 1408, 2048]⟩
abbrev S512x1408 : Shape := ⟨2, ![512, 1408]⟩
abbrev S1408x2048 : Shape := ⟨2, ![1408, 2048]⟩

abbrev nBuf : Space → Nat
  | .hbm => 9
  | .vmem => 12
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S1x5632x2048, .f32⟩
  | .hbm, ⟨3, _⟩ => ⟨S2048x2048, .f32⟩
  | .hbm, ⟨4, _⟩ => ⟨S1x5632x2048, .bf16⟩
  | .hbm, ⟨5, _⟩ => ⟨S2048x5632, .bf16⟩
  | .hbm, ⟨6, _⟩ => ⟨S2048x5632, .bf16⟩
  | .hbm, ⟨7, _⟩ => ⟨S2048x5632, .bf16⟩
  | .hbm, ⟨8, _⟩ => ⟨S2048x5632, .bf16⟩
  | .local _ .vmem, ⟨0, _⟩ => ⟨S512x2048, .f32⟩
  | .local _ .vmem, ⟨1, _⟩ => ⟨S512x2048, .f32⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2048x5632 : Shape := ⟨2, ![2048, 5632]⟩
abbrev S1x5632x2048 : Shape := ⟨3, ![1, 5632, 2048]⟩
abbrev S2048x2048 : Shape := ⟨2, ![2048, 2048]⟩
abbrev S_ : Shape := ⟨0, ![]⟩
abbrev S5632x2048 : Shape := ⟨2, ![5632, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S1x5632x2048, .f32⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S5632x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .bf16⟩
  | .hbm, ⟨34, _⟩ => ⟨S2048x5632, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩

abbrev nD : Nat := 1
abbrev τ : Topo := Topo.v7x

variable {F : FTy → Type} [FloatOps F]
-- ==== Kernel3.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 16
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .f32⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .bf16⟩
  | .hbm, ⟨15, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .f32⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x5632, .f32⟩
  | .hbm, ⟨22, _⟩ => ⟨S5632x2048, .f32⟩
  | .hbm, ⟨23, _⟩ => ⟨S5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩

abbrev nD : Nat := 1
abbrev τ : Topo := Topo.v7x

variable {F : FTy → Type} [FloatOps F]
-- ==== Kernel4.lean ====
abbrev S2048x2048 : Shape := ⟨2, ![2048, 2048]⟩
abbrev S2048x5632 : Shape := ⟨2, ![2048, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S2048x5632, .bf16⟩
  | .hbm, ⟨5, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x5632 : Shape := ⟨2, ![2048, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .f32⟩
  | .hbm, ⟨6, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S2048x2048 : Shape := ⟨2, ![2048, 2048]⟩
abbrev S1x2048x5632 : Shape := ⟨3, ![1, 2048, 5632]⟩
abbrev S2048x5632 : Shape := ⟨2, ![2048, 5632]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 10
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048x5632, .f32⟩
  | .hbm, ⟨2, _⟩ => ⟨S1x2048x5632, .f32⟩
  | .hbm, ⟨3, _⟩ => ⟨S2048x5632, .f32⟩
  | .hbm, ⟨4, _⟩ => ⟨S2048x5632, .f32⟩
  | .hbm, ⟨5, _⟩ => ⟨S2048x5632, .bf16⟩
  | .hbm, ⟨6, _⟩ => ⟨S1x2048x5632, .bf16⟩
  | .hbm, ⟨7, _⟩ => ⟨S2048x5632, .bf16⟩
  | .hbm, ⟨8, _⟩ => ⟨S1x2048x5632, .bf16⟩
  | .hbm, ⟨9, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S2048x2048 : Shape := ⟨2, ![2048, 2048]⟩
abbrev S1x2048x5632 : Shape := ⟨3, ![1, 2048, 5632]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048x5632, .f32⟩
  | .hbm, ⟨2, _⟩ => ⟨S1x2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x2048, .f32⟩
  | .hbm, ⟨10, _⟩ => ⟨S2048x2048, .f32⟩
  | .hbm, ⟨11, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel6.lean ====
abbrev S2048x4096 : Shape := ⟨2, ![2048, 4096]⟩
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S4096x2048, .f32⟩
  | .hbm, ⟨2, _⟩ => ⟨S2048x2048, .f32⟩
  | .hbm, ⟨3, _⟩ => ⟨S2048x4096, .bf16⟩
  | .hbm, ⟨4, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x4096 : Shape := ⟨2, ![2048, 4096]⟩
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x2048, .f32⟩
  | .hbm, ⟨2, _⟩ => ⟨S2048x2048, .f32⟩
  | .hbm, ⟨3, _⟩ => ⟨S2048x2048, .f32⟩
  | .hbm, ⟨4, _⟩ => ⟨S2048x4096, .f32⟩
  | .hbm, ⟨5, _⟩ => ⟨S4096x2048, .f32⟩
  | .hbm, ⟨6, _⟩ => ⟨S4096x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S2048x4096 : Shape := ⟨2, ![2048, 4096]⟩
abbrev S1x4096x2048 : Shape := ⟨3, ![1, 4096, 2048]⟩
abbrev S2048x2048 : Shape := ⟨2, ![2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S1x4096x2048, .f32⟩
  | .hbm, ⟨2, _⟩ => ⟨S2048x2048, .f32⟩
  | .hbm, ⟨3, _⟩ => ⟨S1x4096x2048, .bf16⟩
  | .hbm, ⟨4, _⟩ => ⟨S2048x4096, .f32⟩
  | .local _ .vmem, ⟨0, _⟩ => ⟨S1024x2048, .f32⟩
  | .local _ .vmem, ⟨1, _⟩ => ⟨S1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x4096 : Shape := ⟨2, ![2048, 4096]⟩
abbrev S1x4096x2048 : Shape := ⟨3, ![1, 4096, 2048]⟩
abbrev S2048x2048 : Shape := ⟨2, ![2048, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x4096x2048, .f32⟩
  | .hbm, ⟨2, _⟩ => ⟨S2048x2048, .f32⟩
  | .hbm, ⟨3, _⟩ => ⟨S4096x2048, .f32⟩
  | .hbm, ⟨4, _⟩ => ⟨S2048x2048, .f32⟩
  | .hbm, ⟨5, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S2048x2048 : Shape := ⟨2, ![2048, 2048]⟩
abbrev S2048x10368 : Shape := ⟨2, ![2048, 10368]⟩
abbrev S10368x2048 : Shape := ⟨2, ![10368, 2048]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x10368, .f32⟩
  | .hbm, ⟨2, _⟩ => ⟨S2048x10368, .f32⟩
  | .hbm, ⟨3, _⟩ => ⟨S2048x10368, .bf16⟩
  | .hbm, ⟨4, _⟩ => ⟨S2048x2048, .bf16⟩
  | .hbm, ⟨5, _⟩ => ⟨S10368x2048, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S2048x10368 : Shape := ⟨2, ![2048, 10368]⟩
abbrev S10368x2048 : Shape := ⟨2, ![10368, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x10368, .f32⟩
  | .hbm, ⟨2, _⟩ => ⟨S2048x10368, .f32⟩
  | .hbm, ⟨3, _⟩ => ⟨S2048x10368, .f32⟩
  | .hbm, ⟨4, _⟩ => ⟨S10368x2048, .f32⟩
  | .hbm, ⟨5, _⟩ => ⟨S2048x10368, .f32⟩
  | .hbm, ⟨6, _⟩ => ⟨S10368x2048, .f32⟩
  | .hbm, ⟨7, _⟩ => ⟨S10368x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x2048 : Shape := ⟨2, ![2048, 2048]⟩
abbrev S1x2048x10368 : Shape := ⟨3, ![1, 2048, 10368]⟩
abbrev S2048x10368 : Shape := ⟨2, ![2048, 10368]⟩
abbrev S1x10368x2048 : Shape := ⟨3, ![1, 10368, 2048]⟩
abbrev S1024x1152 : Shape := ⟨2, ![1024, 1152]⟩
abbrev S1x1152x1024 : Shape := ⟨3, ![1, 1152, 1024]⟩
abbrev S1024x1024 : Shape := ⟨2, ![1024, 1024]⟩
abbrev S1152x1024 : Shape := ⟨2, ![1152, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048x10368, .f32⟩
  | .hbm, ⟨2, _⟩ => ⟨S2048x10368, .f32⟩
  | .hbm, ⟨3, _⟩ => ⟨S2048x10368, .bf16⟩
  | .hbm, ⟨4, _⟩ => ⟨S1x10368x2048, .f32⟩
  | .hbm, ⟨5, _⟩ => ⟨S1x10368x2048, .bf16⟩
  | .hbm, ⟨6, _⟩ => ⟨S2048x2048, .f32⟩
  | .local _ .vmem, ⟨0, _⟩ => ⟨S1024x1152, .bf16⟩
  | .local _ .vmem, ⟨1, _⟩ => ⟨S1024x1152, .bf16⟩
  | .local _ .vmem, ⟨2, _⟩ => ⟨S1x1152x1024, .bf16⟩
  | .local _ .vmem, ⟨3, _⟩ => ⟨S1x1152x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 9], ![false, false, false]⟩

def k0_cond2 (i : grid0.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S1x2048x10368 : Shape := ⟨3, ![1, 2048, 10368]⟩
abbrev S2048x10368 : Shape := ⟨2, ![2048, 10368]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048x10368, .f32⟩
  | .hbm, ⟨2, _⟩ => ⟨S2048x10368, .f32⟩
  | .hbm, ⟨3, _⟩ => ⟨S2048x10368, .f32⟩
  | .hbm, ⟨4, _⟩ => ⟨S2048x10368, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048x2048, .f32⟩
  | .hbm, ⟨2, _⟩ => ⟨S2048x2048, .f32⟩
  | .hbm, ⟨3, _⟩ => ⟨S1x2048x2048, .bf16⟩
  | .hbm, ⟨4, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048x2048, .f32⟩
  | .hbm, ⟨2, _⟩ => ⟨S2048x2048, .f32⟩
  | .hbm, ⟨3, _⟩ => ⟨S2048x2048, .bf16⟩
  | .hbm, ⟨4, _⟩ => ⟨S1x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S2048x2048 : Shape := ⟨2, ![2048, 2048]⟩
abbrev S1x2048x5632 : Shape := ⟨3, ![1, 2048, 5632]⟩
abbrev S2048x5632 : Shape := ⟨2, ![2048, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048x5632, .f32⟩
  | .hbm, ⟨2, _⟩ => ⟨S1x2048x5632, .f32⟩
  | .hbm, ⟨3, _⟩ => ⟨S2048x2048, .bf16⟩
  | .hbm, ⟨4, _⟩ => ⟨S1x2048x5632, .bf16⟩
  | .hbm, ⟨5, _⟩ => ⟨S1x2048x5632, .bf16⟩
  | .hbm, ⟨6, _⟩ => ⟨S2048x5632, .bf16⟩
  | .hbm, ⟨7, _⟩ => ⟨S2048x5632, .bf16⟩
  | .hbm, ⟨8, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S2048x2048 : Shape := ⟨2, ![2048, 2048]⟩
abbrev S1x2048x5632 : Shape := ⟨3, ![1, 2048, 5632]⟩
abbrev S2048x5632 : Shape := ⟨2, ![2048, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048x5632, .f32⟩
  | .hbm, ⟨2, _⟩ => ⟨S1x2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .bf16⟩
  | .hbm, ⟨8, _⟩ => ⟨S2048x5632, .bf16⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel14.lean ====
abbrev S2048x2048 : Shape := ⟨2, ![2048, 2048]⟩
abbrev S2048x5632 : Shape := ⟨2, ![2048, 5632]⟩
abbrev S1x5632x2048 : Shape := ⟨3, ![1, 5632, 2048]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S1x5632x2048, .f32⟩
  | .hbm, ⟨3, _⟩ => ⟨S2048x5632, .bf16⟩
  | .hbm, ⟨4, _⟩ => ⟨S1x5632x2048, .bf16⟩
  | .hbm, ⟨5, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S2048x2048 : Shape := ⟨2, ![2048, 2048]⟩
abbrev S2048x5632 : Shape := ⟨2, ![2048, 5632]⟩
abbrev S1x5632x2048 : Shape := ⟨3, ![1, 5632, 2048]⟩
abbrev S5632x2048 : Shape := ⟨2, ![5632, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S1x5632x2048, .f32⟩
  | .hbm, ⟨3, _⟩ => ⟨S5632x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel15.lean ====
abbrev S2048x2048 : Shape := ⟨2, ![2048, 2048]⟩
abbrev S1x2048x10368 : Shape := ⟨3, ![1, 2048, 10368]⟩
abbrev S1x10368x2048 : Shape := ⟨3, ![1, 10368, 2048]⟩
abbrev S2048x10368 : Shape := ⟨2, ![2048, 10368]⟩
abbrev S1024x2048 : Shape := ⟨2, ![1024, 2048]⟩
abbrev S1x1152x2048 : Shape := ⟨3, ![1, 1152, 2048]⟩
abbrev S1024x1152 : Shape := ⟨2, ![1024, 1152]⟩
abbrev S1152x2048 : Shape := ⟨2, ![1152, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048x10368, .f32⟩
  | .hbm, ⟨2, _⟩ => ⟨S2048x2048, .bf16⟩
  | .hbm, ⟨3, _⟩ => ⟨S1x10368x2048, .f32⟩
  | .hbm, ⟨4, _⟩ => ⟨S1x10368x2048, .bf16⟩
  | .hbm, ⟨5, _⟩ => ⟨S2048x10368, .f32⟩
  | .local _ .vmem, ⟨0, _⟩ => ⟨S1024x2048, .bf16⟩
  | .local _ .vmem, ⟨1, _⟩ => ⟨S1024x2048, .bf16⟩
  | .local _ .vmem, ⟨2, _⟩ => ⟨S1x1152x2048, .bf16⟩
  | .local _ .vmem, ⟨3, _⟩ => ⟨S1x1152x2048, .bf16⟩
  | .local _ .vmem, ⟨4, _⟩ => ⟨S1024x1152, .f32⟩
  | .local _ .vmem, ⟨5, _⟩ => ⟨S1024x1152, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x2048 : Shape := ⟨2, ![2048, 2048]⟩
abbrev S1x2048x10368 : Shape := ⟨3, ![1, 2048, 10368]⟩
abbrev S2048x10368 : Shape := ⟨2, ![2048, 10368]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048x10368, .f32⟩
  | .hbm, ⟨2, _⟩ => ⟨S2048x10368, .f32⟩
  | .hbm, ⟨3, _⟩ => ⟨S2048x10368, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S2048x2048 : Shape := ⟨2, ![2048, 2048]⟩
abbrev S2048x4096 : Shape := ⟨2, ![2048, 4096]⟩
abbrev S1x4096x2048 : Shape := ⟨3, ![1, 4096, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S1x4096x2048, .f32⟩
  | .hbm, ⟨3, _⟩ => ⟨S2048x4096, .bf16⟩
  | .hbm, ⟨4, _⟩ => ⟨S1x4096x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S2048x2048 : Shape := ⟨2, ![2048, 2048]⟩
abbrev S2048x4096 : Shape := ⟨2, ![2048, 4096]⟩
abbrev S1x4096x2048 : Shape := ⟨3, ![1, 4096, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S1x4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048x2048, .f32⟩
  | .hbm, ⟨2, _⟩ => ⟨S2048x2048, .bf16⟩
  | .hbm, ⟨3, _⟩ => ⟨S1x2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x2048 : Shape := ⟨2, ![2048, 2048]⟩
abbrev S1x2048x2048 : Shape := ⟨3, ![1, 2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048x2048, .f32⟩
  | .hbm, ⟨2, _⟩ => ⟨S2048x2048, .f32⟩
  | .hbm, ⟨3, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel18.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048x2048, .f32⟩
  | .hbm, ⟨3, _⟩ => ⟨S2048x2048, .bf16⟩
  | .hbm, ⟨4, _⟩ => ⟨S1x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S2048x2048 : Shape := ⟨2, ![2048, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.ScanMath.lean ====
/- The backward pass of one chunk of the scan, over the reals. Nothing here mentions a program: the definitions are the
   closed forms both programs are shown to compute, and the lemmas say how they behave when the rows are renamed. -/
module

public import Idealize.ShloMosaic.Lib.Pointwise

@[expose] public section

set_option maxRecDepth 16384

noncomputable section

namespace Cert.Ssd

open Idealize.ShloMosaic

/-- The head a lane of a group belongs to. -/
def hd (l : Fin 512) : Fin 8 := ⟨l.val / 64, by omega⟩

/-- The lane of a head's channel. -/
def ln (h : Fin 8) (p : Fin 64) : Fin 512 := ⟨h.val * 64 + p.val, by omega⟩

@[simp] theorem hd_ln (h : Fin 8) (p : Fin 64) : hd (ln h p) = h := by
  apply Fin.ext; simp only [hd, ln]; omega

/-- A sum over the lanes of a group is the sum over its heads and their channels. -/
theorem sum_ln (f : Fin 512 → ℝ) : ∑ l, f l = ∑ h, ∑ p, f (ln h p) := by
  have := Fin.sum_univ_tiles 8 64 rfl f
  exact this

/-- The lanes of one head, picked out of the sum over all of them. -/
theorem sum_head (f : Fin 512 → ℝ) (h : Fin 8) : ∑ l, f l * (if hd l = h then 1 else 0) = ∑ p, f (ln h p) := by
  rw [sum_ln]
  simp only [hd_ln, mul_ite, mul_one, mul_zero]
  rw [Finset.sum_comm]
  simp

/-- The lane of a block of 128 lanes, two heads wide. -/
def lq (q : Fin 4) (l : Fin 128) : Fin 512 := ⟨128 * q.val + l.val, by omega⟩

theorem lq0 (l : Fin 128) (h : l.val < 512) : (⟨l.val, h⟩ : Fin 512) = lq 0 l := by
  apply Fin.ext; simp [lq]
theorem lq1 (l : Fin 128) (h : 128 + l.val < 512) : (⟨128 + l.val, h⟩ : Fin 512) = lq 1 l := rfl
theorem lq2 (l : Fin 128) (h : 256 + l.val < 512) : (⟨256 + l.val, h⟩ : Fin 512) = lq 2 l := rfl
theorem lq3 (l : Fin 128) (h : 384 + l.val < 512) : (⟨384 + l.val, h⟩ : Fin 512) = lq 3 l := rfl

/-- One chunk of one group of heads in one direction: `le j i` says that row `j` does not come after row `i`. -/
structure Base where
  le : Fin 128 → Fin 128 → Bool
  x : Fin 128 → Fin 512 → ℝ
  dy : Fin 128 → Fin 512 → ℝ
  b : Fin 128 → Fin 128 → ℝ
  c : Fin 128 → Fin 128 → ℝ
  dt : Fin 128 → Fin 8 → ℝ
  a : Fin 8 → ℝ

namespace Base

variable (B : Base) (H G : Fin 128 → Fin 512 → ℝ)

/-- One where row `j` does not come after row `i`, else zero. -/
def m (j i : Fin 128) : ℝ := if B.le j i then 1 else 0
/-- The summed decay exponent up to a row. -/
def cs (i : Fin 128) (h : Fin 8) : ℝ := ∑ j, B.m j i * (B.dt j h * B.a h)
/-- The summed decay exponent of the whole chunk. -/
def tot (h : Fin 8) : ℝ := ∑ j, B.dt j h * B.a h
/-- The decay from a row to the end of the chunk. -/
def dec (j : Fin 128) (h : Fin 8) : ℝ := Real.exp (B.tot h - B.cs j h)
def xdt (j : Fin 128) (l : Fin 512) : ℝ := B.x j l * B.dt j (hd l)
def dye (i : Fin 128) (l : Fin 512) : ℝ := B.dy i l * Real.exp (B.cs i (hd l))
/-- The decay from row `j` to row `i`, zero if `j` comes later. -/
def L (i j : Fin 128) (h : Fin 8) : ℝ := if B.le j i then Real.exp (B.cs i h - B.cs j h) else 0
def cb (i j : Fin 128) : ℝ := ∑ n, B.c i n * B.b j n
/-- The read-out of the entering state. -/
def ch (i : Fin 128) (l : Fin 512) : ℝ := ∑ n, B.c i n * H n l
/-- The gradient of a row's write into the state, from the gradient of the leaving state. -/
def wst (j : Fin 128) (l : Fin 512) : ℝ := ∑ n, B.b j n * G n l
def dm (i j : Fin 128) (h : Fin 8) : ℝ := ∑ p, B.dy i (ln h p) * B.xdt j (ln h p)
def z (i j : Fin 128) (h : Fin 8) : ℝ := B.dm i j h * (B.cb i j * B.L i j h)
def dcb (i j : Fin 128) : ℝ := ∑ h, B.dm i j h * B.L i j h
def dxdt (j : Fin 128) (l : Fin 512) : ℝ :=
  B.wst G j l * B.dec j (hd l) + ∑ i, B.cb i j * B.L i j (hd l) * B.dy i l
def t1 (j : Fin 128) (h : Fin 8) : ℝ := (∑ p, B.wst G j (ln h p) * B.xdt j (ln h p)) * B.dec j h
def dcs (i : Fin 128) (h : Fin 8) : ℝ :=
  ∑ p, B.dye i (ln h p) * B.ch H i (ln h p) - B.t1 G i h + ∑ j, B.z i j h
def zr (j : Fin 128) (h : Fin 8) : ℝ := ∑ i, B.z i j h
def dtot (h : Fin 8) : ℝ :=
  ∑ j, B.t1 G j h + (∑ p, ∑ n, G n (ln h p) * H n (ln h p)) * Real.exp (B.tot h)
def ddta (i : Fin 128) (h : Fin 8) : ℝ :=
  ∑ j, B.m i j * B.dcs H G j h - ∑ j, B.m i j * B.zr j h + B.dtot H G h
/-- The gradient of the group's input projection. -/
def dB (j n : Fin 128) : ℝ := ∑ l, B.xdt j l * B.dec j (hd l) * G n l + ∑ i, B.dcb i j * B.c i n
/-- The gradient of the group's output projection. -/
def dC (i n : Fin 128) : ℝ := ∑ l, B.dye i l * H n l + ∑ j, B.dcb i j * B.b j n
/-- What the chunk adds to the state. -/
def S (n : Fin 128) (l : Fin 512) : ℝ := ∑ j, B.b j n * (B.dec j (hd l) * B.xdt j l)
/-- What the chunk adds to the gradient of the state. -/
def D (n : Fin 128) (l : Fin 512) : ℝ := ∑ i, B.c i n * B.dye i l
def ddt (i : Fin 128) (h : Fin 8) : ℝ := ∑ p, B.dxdt G i (ln h p) * B.x i (ln h p) + B.ddta H G i h * B.a h
def da (h : Fin 8) : ℝ := ∑ i, B.ddta H G i h * B.dt i h
def dx (i : Fin 128) (l : Fin 512) : ℝ := B.dxdt G i l * B.dt i (hd l)
/-- The gradient of the entering state. -/
def Gn (n : Fin 128) (l : Fin 512) : ℝ := B.D n l + G n l * Real.exp (B.tot (hd l))
/-- The leaving state. -/
def Hn (n : Fin 128) (l : Fin 512) : ℝ := H n l * Real.exp (B.tot (hd l)) + B.S n l

/-- The gradient of the scores, the first heads alone. -/
def dcbTo (k : ℕ) (i j : Fin 128) : ℝ := ∑ h : Fin 8, if h.val < k then B.dm i j h * B.L i j h else 0
/-- The gradient of the summed decays, the scores of the first heads alone. -/
def dcsTo (k : ℕ) (i : Fin 128) (h : Fin 8) : ℝ :=
  ∑ p, B.dye i (ln h p) * B.ch H i (ln h p) - B.t1 G i h + if h.val < k then ∑ j, B.z i j h else 0
/-- A block of lanes of the gradient of the scaled inputs, the first of its two heads alone. -/
def half (q : Fin 4) (j l : Fin 128) : ℝ :=
  B.wst G j (lq q l) * B.dec j (hd (lq q l)) +
    if l.val < 64 then ∑ i, B.cb i j * B.L i j (hd (lq q l)) * B.dy i (lq q l) else 0

/-- The chunk with its rows renamed. -/
def re (e : Fin 128 ≃ Fin 128) : Base where
  le j i := B.le (e j) (e i)
  x i := B.x (e i)
  dy i := B.dy (e i)
  b i := B.b (e i)
  c i := B.c (e i)
  dt i := B.dt (e i)
  a := B.a

variable (e : Fin 128 ≃ Fin 128)

theorem re_m (j i : Fin 128) : (B.re e).m j i = B.m (e j) (e i) := rfl
theorem re_cs (i : Fin 128) (h : Fin 8) : (B.re e).cs i h = B.cs (e i) h :=
  e.sum_comp fun j => B.m j (e i) * (B.dt j h * B.a h)
theorem re_tot (h : Fin 8) : (B.re e).tot h = B.tot h := e.sum_comp fun j => B.dt j h * B.a h
theorem re_dec (j : Fin 128) (h : Fin 8) : (B.re e).dec j h = B.dec (e j) h := by
  simp only [dec, re_tot, re_cs]
theorem re_xdt (j : Fin 128) (l : Fin 512) : (B.re e).xdt j l = B.xdt (e j) l := rfl
theorem re_dye (i : Fin 128) (l : Fin 512) : (B.re e).dye i l = B.dye (e i) l := by
  simp only [dye, re_cs]; rfl
theorem re_L (i j : Fin 128) (h : Fin 8) : (B.re e).L i j h = B.L (e i) (e j) h := by
  simp only [L, re_cs]; rfl
theorem re_cb (i j : Fin 128) : (B.re e).cb i j = B.cb (e i) (e j) := rfl
theorem re_ch (i : Fin 128) (l : Fin 512) : (B.re e).ch H i l = B.ch H (e i) l := rfl
theorem re_wst (j : Fin 128) (l : Fin 512) : (B.re e).wst G j l = B.wst G (e j) l := rfl
theorem re_dm (i j : Fin 128) (h : Fin 8) : (B.re e).dm i j h = B.dm (e i) (e j) h := rfl
theorem re_z (i j : Fin 128) (h : Fin 8) : (B.re e).z i j h = B.z (e i) (e j) h := by
  simp only [z, re_L, re_cb, re_dm]
theorem re_dcb (i j : Fin 128) : (B.re e).dcb i j = B.dcb (e i) (e j) := by
  simp only [dcb, re_L, re_dm]
theorem re_dxdt (j : Fin 128) (l : Fin 512) : (B.re e).dxdt G j l = B.dxdt G (e j) l := by
  simp only [dxdt, re_L, re_cb, re_wst, re_dec]
  congr 1
  exact e.sum_comp fun i => B.cb i (e j) * B.L i (e j) (hd l) * B.dy i l
theorem re_t1 (j : Fin 128) (h : Fin 8) : (B.re e).t1 G j h = B.t1 G (e j) h := by
  simp only [t1, re_wst, re_xdt, re_dec]
theorem re_dcs (i : Fin 128) (h : Fin 8) : (B.re e).dcs H G i h = B.dcs H G (e i) h := by
  simp only [dcs, re_dye, re_ch, re_t1, re_z]
  congr 1
  exact e.sum_comp fun j => B.z (e i) j h
theorem re_zr (j : Fin 128) (h : Fin 8) : (B.re e).zr j h = B.zr (e j) h := by
  simp only [zr, re_z]
  exact e.sum_comp fun i => B.z i (e j) h
theorem re_dtot (h : Fin 8) : (B.re e).dtot H G h = B.dtot H G h := by
  simp only [dtot, re_t1, re_tot]
  congr 1
  exact e.sum_comp fun j => B.t1 G j h
theorem re_ddta (i : Fin 128) (h : Fin 8) : (B.re e).ddta H G i h = B.ddta H G (e i) h := by
  simp only [ddta, re_dcs, re_zr, re_dtot, re_m]
  congr 2
  · exact e.sum_comp fun j => B.m (e i) j * B.dcs H G j h
  · exact e.sum_comp fun j => B.m (e i) j * B.zr j h
theorem re_dB (j n : Fin 128) : (B.re e).dB G j n = B.dB G (e j) n := by
  simp only [dB, re_xdt, re_dec, re_dcb]
  congr 1
  exact e.sum_comp fun i => B.dcb i (e j) * B.c i n
theorem re_dC (i n : Fin 128) : (B.re e).dC H i n = B.dC H (e i) n := by
  simp only [dC, re_dye, re_dcb]
  congr 1
  exact e.sum_comp fun j => B.dcb (e i) j * B.b j n
theorem re_D (n : Fin 128) (l : Fin 512) : (B.re e).D n l = B.D n l := by
  simp only [D, re_dye]
  exact e.sum_comp fun i => B.c i n * B.dye i l
theorem re_ddt (i : Fin 128) (h : Fin 8) : (B.re e).ddt H G i h = B.ddt H G (e i) h := by
  simp only [ddt, re_dxdt, re_ddta]; rfl
theorem re_da (h : Fin 8) : (B.re e).da H G h = B.da H G h := by
  simp only [da, re_ddta]
  exact e.sum_comp fun i => B.ddta H G i h * B.dt i h
theorem re_dx (i : Fin 128) (l : Fin 512) : (B.re e).dx G i l = B.dx G (e i) l := by
  simp only [dx, re_dxdt]; rfl
theorem re_Gn (n : Fin 128) (l : Fin 512) : (B.re e).Gn G n l = B.Gn G n l := by
  simp only [Gn, re_D, re_tot]

end Base

theorem hd_lq_lo (q : Fin 4) (k : Fin 8) (hk : k.val = 2 * q.val) (l : Fin 128) (h : l.val < 64) : hd (lq q l) = k := by
  apply Fin.ext; simp only [hd, lq]; omega

theorem hd_lq_hi (q : Fin 4) (k : Fin 8) (hk : k.val = 2 * q.val + 1) (l : Fin 128) (h : ¬l.val < 64) : hd (lq q l) = k := by
  apply Fin.ext; simp only [hd, lq]; omega

/-- The lower half of a block of lanes is its first head. -/
theorem sum_lo (q : Fin 4) (k : Fin 8) (hk : k.val = 2 * q.val) (f : Fin 512 → ℝ) :
    (∑ l : Fin 128, if l.val < 64 then (if l.val < 64 then f (lq q l) else 0) else 0) = ∑ p, f (ln k p) := by
  rw [Fin.sum_univ_add (a := 64) (b := 64)]
  have h2 : ∀ p : Fin 64, ¬(Fin.natAdd 64 p : Fin 128).val < 64 := fun p => by simp
  have h1 : ∀ p : Fin 64, (Fin.castAdd 64 p : Fin 128).val < 64 := fun p => by simp
  simp only [h1, h2, if_true, if_false, Finset.sum_const_zero, add_zero]
  refine Finset.sum_congr rfl fun p _ => congrArg f (Fin.ext ?_)
  simp only [lq, ln, Fin.val_castAdd]; omega

/-- The upper half of a block of lanes is its second head. -/
theorem sum_hi (q : Fin 4) (k : Fin 8) (hk : k.val = 2 * q.val + 1) (f : Fin 512 → ℝ) :
    (∑ l : Fin 128, if l.val < 64 then 0 else (if l.val < 64 then 0 else f (lq q l))) = ∑ p, f (ln k p) := by
  rw [Fin.sum_univ_add (a := 64) (b := 64)]
  have h2 : ∀ p : Fin 64, ¬(Fin.natAdd 64 p : Fin 128).val < 64 := fun p => by simp
  have h1 : ∀ p : Fin 64, (Fin.castAdd 64 p : Fin 128).val < 64 := fun p => by simp
  simp only [h1, h2, if_true, if_false, Finset.sum_const_zero, zero_add]
  refine Finset.sum_congr rfl fun p _ => congrArg f (Fin.ext ?_)
  simp only [lq, ln, Fin.val_natAdd]; omega

namespace Base

variable (B : Base) (H G : Fin 128 → Fin 512 → ℝ)

theorem dm_lo0 (i j : Fin 128) : (∑ l : Fin 128, if l.val < 64 then (if l.val < 64 then B.dy i (lq 0 l) * B.xdt j (lq 0 l) else 0) else 0) = B.dm i j 0 :=
  sum_lo 0 0 rfl fun l => B.dy i l * B.xdt j l
theorem dm_hi0 (i j : Fin 128) : (∑ l : Fin 128, if l.val < 64 then 0 else (if l.val < 64 then 0 else B.dy i (lq 0 l) * B.xdt j (lq 0 l))) = B.dm i j 1 :=
  sum_hi 0 1 rfl fun l => B.dy i l * B.xdt j l
theorem dm_lo1 (i j : Fin 128) : (∑ l : Fin 128, if l.val < 64 then (if l.val < 64 then B.dy i (lq 1 l) * B.xdt j (lq 1 l) else 0) else 0) = B.dm i j 2 :=
  sum_lo 1 2 rfl fun l => B.dy i l * B.xdt j l
theorem dm_hi1 (i j : Fin 128) : (∑ l : Fin 128, if l.val < 64 then 0 else (if l.val < 64 then 0 else B.dy i (lq 1 l) * B.xdt j (lq 1 l))) = B.dm i j 3 :=
  sum_hi 1 3 rfl fun l => B.dy i l * B.xdt j l
theorem dm_lo2 (i j : Fin 128) : (∑ l : Fin 128, if l.val < 64 then (if l.val < 64 then B.dy i (lq 2 l) * B.xdt j (lq 2 l) else 0) else 0) = B.dm i j 4 :=
  sum_lo 2 4 rfl fun l => B.dy i l * B.xdt j l
theorem dm_hi2 (i j : Fin 128) : (∑ l : Fin 128, if l.val < 64 then 0 else (if l.val < 64 then 0 else B.dy i (lq 2 l) * B.xdt j (lq 2 l))) = B.dm i j 5 :=
  sum_hi 2 5 rfl fun l => B.dy i l * B.xdt j l
theorem dm_lo3 (i j : Fin 128) : (∑ l : Fin 128, if l.val < 64 then (if l.val < 64 then B.dy i (lq 3 l) * B.xdt j (lq 3 l) else 0) else 0) = B.dm i j 6 :=
  sum_lo 3 6 rfl fun l => B.dy i l * B.xdt j l
theorem dm_hi3 (i j : Fin 128) : (∑ l : Fin 128, if l.val < 64 then 0 else (if l.val < 64 then 0 else B.dy i (lq 3 l) * B.xdt j (lq 3 l))) = B.dm i j 7 :=
  sum_hi 3 7 rfl fun l => B.dy i l * B.xdt j l

theorem half_lo (q : Fin 4) (k : Fin 8) (hk : k.val = 2 * q.val) (j l : Fin 128) :
    (B.wst G j (lq q l) * B.dec j (hd (lq q l)) +
      ∑ i, if l.val < 64 then B.cb i j * B.L i j k * B.dy i (lq q l) else 0) = B.half G q j l := by
  unfold half
  by_cases h : l.val < 64
  · simp only [h, if_true, hd_lq_lo q k hk l h]
  · simp only [h, if_false, Finset.sum_const_zero]

theorem half_hi (q : Fin 4) (k : Fin 8) (hk : k.val = 2 * q.val + 1) (j l : Fin 128) :
    (B.half G q j l + ∑ i, if l.val < 64 then 0 else B.cb i j * B.L i j k * B.dy i (lq q l)) = B.dxdt G j (lq q l) := by
  unfold half dxdt
  by_cases h : l.val < 64
  · simp only [h, if_true, Finset.sum_const_zero, add_zero]
  · simp only [h, if_false, hd_lq_hi q k hk l h, add_zero]

theorem dcbTo_zero (i j : Fin 128) : B.dcbTo 0 i j = 0 := by simp [dcbTo]

theorem dcbTo_succ (k : Fin 8) (i j : Fin 128) : B.dcbTo k.val i j + B.dm i j k * B.L i j k = B.dcbTo (k.val + 1) i j := by
  unfold dcbTo
  rw [show B.dm i j k * B.L i j k = ∑ h : Fin 8, if h = k then B.dm i j h * B.L i j h else 0 by simp, ← Finset.sum_add_distrib]
  refine Finset.sum_congr rfl fun h _ => ?_
  rcases lt_trichotomy h.val k.val with hlt | heq | hgt
  · rw [if_pos hlt, if_neg (fun e => by omega), if_pos (by omega), add_zero]
  · rw [if_neg (by omega), if_pos (Fin.ext heq), if_pos (by omega), zero_add]
  · rw [if_neg (by omega), if_neg (fun e => by omega), if_neg (by omega), add_zero]

theorem dcbTo_all (i j : Fin 128) : B.dcbTo 8 i j = B.dcb i j := by
  unfold dcbTo dcb
  exact Finset.sum_congr rfl fun h _ => if_pos h.isLt

theorem dcsTo_succ (k : Fin 8) (i : Fin 128) (h : Fin 8) :
    (B.dcsTo H G k.val i h + if h = k then ∑ j, B.z i j k else 0) = B.dcsTo H G (k.val + 1) i h := by
  unfold dcsTo
  rw [add_assoc]
  congr 1
  rcases lt_trichotomy h.val k.val with hlt | heq | hgt
  · rw [if_pos hlt, if_neg (fun e => by omega), if_pos (by omega), add_zero]
  · obtain rfl : h = k := Fin.ext heq
    rw [if_neg (by omega), if_pos rfl, if_pos (by omega), zero_add]
  · rw [if_neg (by omega), if_neg (fun e => by omega), if_neg (by omega), add_zero]

theorem dcbTo_one (i j : Fin 128) : B.dm i j 0 * B.L i j 0 = B.dcbTo 1 i j := by
  have := B.dcbTo_succ 0 i j
  rw [show ((0 : Fin 8) : ℕ) = 0 from rfl, dcbTo_zero, zero_add] at this
  exact this

theorem dcsTo_zero (i : Fin 128) (h : Fin 8) :
    ∑ p, B.dye i (ln h p) * B.ch H i (ln h p) - B.t1 G i h = B.dcsTo H G 0 i h := by
  simp [dcsTo]

theorem dcsTo_pair (k k' : Fin 8) (hk : k'.val = k.val + 1) (i : Fin 128) (h : Fin 8) :
    ((B.dcsTo H G k.val i h + if h = k then ∑ j, B.z i j k else 0) + if h = k' then ∑ j, B.z i j k' else 0) =
      B.dcsTo H G (k.val + 2) i h := by
  rw [dcsTo_succ, ← hk, dcsTo_succ, hk]

theorem dcsTo_all (i : Fin 128) (h : Fin 8) : B.dcsTo H G 8 i h = B.dcs H G i h := by
  unfold dcsTo dcs
  rw [if_pos h.isLt]

theorem dcsTo_last (i : Fin 128) (h : Fin 8) : (B.dcsTo H G 7 i h + if h = 7 then ∑ j, B.z i j 7 else 0) = B.dcs H G i h :=
  (B.dcsTo_succ H G 7 i h).trans (B.dcsTo_all H G i h)

end Base

end Cert.Ssd

end
-- ==== Proof.ScanSpec.lean ====
/- How a vector of the idealized program is read as a matrix of reals, and the few facts about reals among the extended
   reals that carry the arithmetic over. -/
module

public import proofs.«01_k».proof.Proof.ScanMath

@[expose] public section

noncomputable section

namespace Cert.Ssd

open Idealize.ShloMosaic

/-- The matrix reads, entry by entry, as the given reals. -/
abbrev Is {m n : ℕ} (v : (⟨2, ![m, n]⟩ : Shape).Idx → EReal) (f : Fin m → Fin n → ℝ) : Prop :=
  ∀ (i : Fin m) (j : Fin n), v (ix2 i j) = ((f i j : ℝ) : EReal)

/-- The mask reads, entry by entry, as the given truth values. -/
abbrev IsB {m n : ℕ} (v : (⟨2, ![m, n]⟩ : Shape).Idx → BitVec 1) (f : Fin m → Fin n → Bool) : Prop :=
  ∀ (i : Fin m) (j : Fin n), v (ix2 i j) = BitVec.ofBool (f i j)

/-- A sum of reals is the same sum among the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A choice by a truth value. -/
theorem sel {α : Type} (b : Bool) (x y : α) : Scalar.select (BitVec.ofBool b) x y = if b then x else y := by
  cases b <;> rfl

/-- A choice between two reals is a real. -/
theorem coe_ite (b : Bool) (x y : ℝ) : (if b then (x : EReal) else (y : EReal)) = ((if b then x else y : ℝ) : EReal) := by
  cases b <;> rfl

/-- The exponential of a masked entry: zero where the mask hides it. -/
theorem exp_mask (b : Bool) (x : ℝ) :
    Ideal.exp (if b then (x : EReal) else ⊥) = ((if b then Real.exp x else 0 : ℝ) : EReal) := by
  cases b
  · exact Ideal.exp_bot
  · exact Ideal.exp_coe x

/-- Equal reals are equal extended reals. -/
theorem coe_eq {x y : ℝ} (h : x = y) : ((x : ℝ) : EReal) = ((y : ℝ) : EReal) := congrArg _ h

/-- A truth value, widened and read as a number. -/
theorem int_ofBool (b : Bool) : (((BitVec.setWidth 32 (BitVec.ofBool b)).toInt : ℤ) : ℝ) = if b then 1 else 0 := by
  cases b <;> simp

/-- Reading a word as a number. -/
theorem sitofp_eq (w : BitVec 32) : FloatOps.sitofp (F := Ideal) .f32 w = (((w.toInt : ℤ) : ℝ) : EReal) := rfl

/-- A product with the identity matrix, written as a comparison of row and column numbers. -/
theorem eye_row (f : Fin 8 → ℝ) (i : Fin 8) :
    ∑ k : Fin 8, (((BitVec.setWidth 32 (IntOp.cmpi CmpIPredicate.eq (BitVec.ofNat 32 i.val) (BitVec.ofNat 32 k.val))).toInt : ℤ) : ℝ) * f k = f i := by
  have h : ∀ i k : Fin 8, (BitVec.setWidth 32 (IntOp.cmpi CmpIPredicate.eq (BitVec.ofNat 32 i.val) (BitVec.ofNat 32 k.val))).toInt = if i = k then 1 else 0 := by
    decide +kernel
  simp [h]

/-- The lower half of a block of 128 lanes. -/
theorem lane_low (l : Fin 128) : IntOp.cmpi CmpIPredicate.slt (BitVec.ofNat 32 l.val) 64#32 = BitVec.ofBool (decide (l.val < 64)) := by
  revert l; decide +kernel

/-! A head's number among the eight. -/

theorem head_eq0 (h : Fin 8) : IntOp.cmpi CmpIPredicate.eq (BitVec.ofNat 32 h.val) 0#32 = BitVec.ofBool (decide (h = 0)) := by
  revert h; decide +kernel

theorem head_eq1 (h : Fin 8) : IntOp.cmpi CmpIPredicate.eq (BitVec.ofNat 32 h.val) 1#32 = BitVec.ofBool (decide (h = 1)) := by
  revert h; decide +kernel

theorem head_eq2 (h : Fin 8) : IntOp.cmpi CmpIPredicate.eq (BitVec.ofNat 32 h.val) 2#32 = BitVec.ofBool (decide (h = 2)) := by
  revert h; decide +kernel

theorem head_eq3 (h : Fin 8) : IntOp.cmpi CmpIPredicate.eq (BitVec.ofNat 32 h.val) 3#32 = BitVec.ofBool (decide (h = 3)) := by
  revert h; decide +kernel

theorem head_eq4 (h : Fin 8) : IntOp.cmpi CmpIPredicate.eq (BitVec.ofNat 32 h.val) 4#32 = BitVec.ofBool (decide (h = 4)) := by
  revert h; decide +kernel

theorem head_eq5 (h : Fin 8) : IntOp.cmpi CmpIPredicate.eq (BitVec.ofNat 32 h.val) 5#32 = BitVec.ofBool (decide (h = 5)) := by
  revert h; decide +kernel

theorem head_eq6 (h : Fin 8) : IntOp.cmpi CmpIPredicate.eq (BitVec.ofNat 32 h.val) 6#32 = BitVec.ofBool (decide (h = 6)) := by
  revert h; decide +kernel

theorem head_eq7 (h : Fin 8) : IntOp.cmpi CmpIPredicate.eq (BitVec.ofNat 32 h.val) 7#32 = BitVec.ofBool (decide (h = 7)) := by
  revert h; decide +kernel

/-- A row of heads spread over the lanes. -/
theorem sum_spread (f : Fin 8 → ℝ) (l : Fin 512) : ∑ h, f h * (if hd l = h then 1 else 0) = f (hd l) := by
  simp

end Cert.Ssd

end
-- ==== Proof.ScanPayA.lean ====
module
public import proofs.«01_k».proof.Proof.ScanSpec
public import proofs.«01_k».proof.Proof.Gen.KernelIdeal.Skeleton
@[expose] public section
set_option maxRecDepth 16384
noncomputable section
namespace Cert.KernelIdeal.Ssd
open Idealize.ShloMosaic Idealize.ShloMosaic.TcCoe Idealize.SL.Sem
open Cert.KernelIdeal Cert.KernelIdeal.Gen Cert.Ssd
/-- The mask constant is minus infinity. -/
theorem mask_bot : Named.named (F := Ideal) κ (φ := .f32) "mask" 0xF149F2CA#32 = (⊥ : EReal) := rfl
variable (B : Base) (H G : Fin 128 → Fin 512 → ℝ) (A : Fin 8 → ℝ) (dv : Fin 512 → ℝ) (s : ℝ)

/-- Stage 8 of the body, `v22`, as a closed form of the block. -/
theorem p8 (v21 : Vec Ideal S1x1x128x8 .f32)
    (hv21 : ∀ i h, v21 (ix4 0 0 i h) = ((B.dt i h : ℝ) : EReal)) :
    Is (k0_pay8 (F := Ideal) v21) (B.dt) := by
  intro i j
  pointwise [k0_pay8]
  all_goals simp only [hv21]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 11 of the body, `v30`, as a closed form of the block. -/
theorem p11 (i : grid0.Coords)
    (h11 : IsB (k0_pay5 i) (fun i j => B.le j i)) :
    Is (k0_pay11 (F := Ideal) i) (fun i j => B.m j i) := by
  intro r j
  pointwise [k0_pay11]
  all_goals simp only [h11 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 14 of the body, `v34`, as a closed form of the block. -/
theorem p14 (v21 : Vec Ideal S1x1x128x8 .f32) (v23 : Vec Ideal S1x1x1x8 .f32)
    (hv21 : ∀ i h, v21 (ix4 0 0 i h) = ((B.dt i h : ℝ) : EReal)) (hv23 : ∀ h, 0 - Ideal.exp (v23 (ix4 0 0 0 h)) = ((B.a h : ℝ) : EReal)) :
    Is (k0_pay14 (F := Ideal) v21 v23) (fun _ _ => 0) := by
  intro i j
  pointwise [k0_pay8, k0_pay9, k0_pay10, k0_pay12, k0_pay13, k0_pay14]
  all_goals simp only [hv21, hv23]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 15 of the body, `v37`, as a closed form of the block. -/
theorem p15 (v21 : Vec Ideal S1x1x128x8 .f32) (v23 : Vec Ideal S1x1x1x8 .f32)
    (hv21 : ∀ i h, v21 (ix4 0 0 i h) = ((B.dt i h : ℝ) : EReal)) (hv23 : ∀ h, 0 - Ideal.exp (v23 (ix4 0 0 0 h)) = ((B.a h : ℝ) : EReal)) :
    Is (k0_pay15 (F := Ideal) v21 v23) (fun _ _ => 0) := by
  intro i j
  pointwise [k0_pay8, k0_pay9, k0_pay10, k0_pay12, k0_pay13, k0_pay14, k0_pay15]
  all_goals simp only [hv21, hv23]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 16 of the body, `v38`, as a closed form of the block. -/
theorem p16 (i : grid0.Coords) (v21 : Vec Ideal S1x1x128x8 .f32) (v23 : Vec Ideal S1x1x1x8 .f32)
    (hv21 : ∀ i h, v21 (ix4 0 0 i h) = ((B.dt i h : ℝ) : EReal)) (hv23 : ∀ h, 0 - Ideal.exp (v23 (ix4 0 0 0 h)) = ((B.a h : ℝ) : EReal)) (h11 : IsB (k0_pay5 i) (fun i j => B.le j i)) :
    Is (k0_pay16 (F := Ideal) i v21 v23) (B.cs) := by
  intro r j
  pointwise [k0_pay8, k0_pay9, k0_pay10, k0_pay11, k0_pay12, k0_pay16]
  all_goals simp only [hv21, hv23, h11 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 17 of the body, `v42`, as a closed form of the block. -/
theorem p17 (v30 : FVec Ideal S128x128 .bf16) (v34 : FVec Ideal S128x8 .bf16) (v37 : FVec Ideal S128x8 .bf16) (v38 : FVec Ideal S128x8 .f32) (cst_11 : FVec Ideal S128x8 .f32)
    (hv30 : Is v30 (fun i j => B.m j i)) (hv34 : Is v34 (fun _ _ => 0)) (hv37 : Is v37 (fun _ _ => 0)) (hv38 : Is v38 (B.cs)) (hcst_11 : Is cst_11 (fun _ _ => 0)) :
    Is (k0_pay17 (F := Ideal) v30 v34 v37 v38 cst_11) (B.cs) := by
  intro i j
  pointwise [k0_pay17]
  all_goals simp only [hv30 _ _, hv34 _ _, hv37 _ _, hv38 _ _, hcst_11 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 19 of the body, `v48`, as a closed form of the block. -/
theorem p19 (v47 : Vec Ideal S128x128 .f32)
    (hv47 : Is v47 (B.b)) :
    Is (k0_pay19 (F := Ideal) v47) (B.b) := by
  intro i j
  pointwise [k0_pay19]
  all_goals simp only [hv47 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 25 of the body, `v61`, as a closed form of the block. -/
theorem p25 (v59 : Vec Ideal S1x1x1x128x512 .f32)
    (hv59 : ∀ n l, v59 (ix5 0 0 0 n l) = ((H n l : ℝ) : EReal)) :
    Is (k0_pay25 (F := Ideal) v59) (H) := by
  intro i j
  pointwise [k0_pay24, k0_pay25]
  all_goals simp only [hv59]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 31 of the body, `v99`, as a closed form of the block. -/
theorem p31 (v42 : FVec Ideal S128x8 .f32)
    (hv42 : Is v42 (B.cs)) :
    Is (k0_pay31 (F := Ideal) v42) (fun h i => B.cs i h) := by
  intro i j
  pointwise [k0_pay31]
  all_goals simp only [hv42 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals first | exact rfl | exact eye_row _ _

/-- Stage 32 of the body, `v111`, as a closed form of the block. -/
theorem p32 (v22 : FVec Ideal S128x8 .f32) (v68 : IVec S8x512 32) (v69 : IVec S8x512 32) (c64_i32 : BitVec 32)
    (hv22 : Is v22 (B.dt)) (h81 : Is (k0_pay30 (F := Ideal) v68 v69 c64_i32) (fun h l => if hd l = h then 1 else 0)) :
    Is (k0_pay32 (F := Ideal) v22 v68 v69 c64_i32) (fun i l => B.dt i (hd l)) := by
  intro i j
  pointwise [k0_pay32]
  all_goals simp only [hv22 _ _, h81 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 36 of the body, `v116`, as a closed form of the block. -/
theorem p36 (v42 : FVec Ideal S128x8 .f32)
    (hv42 : Is v42 (B.cs)) :
    Is (k0_pay36 (F := Ideal) v42) (fun _ _ => 0) := by
  intro i j
  pointwise [k0_pay33, k0_pay34, k0_pay35, k0_pay36]
  all_goals simp only [hv42 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 37 of the body, `v119`, as a closed form of the block. -/
theorem p37 (v42 : FVec Ideal S128x8 .f32)
    (hv42 : Is v42 (B.cs)) :
    Is (k0_pay37 (F := Ideal) v42) (fun _ _ => 0) := by
  intro i j
  pointwise [k0_pay33, k0_pay34, k0_pay35, k0_pay36, k0_pay37]
  all_goals simp only [hv42 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 38 of the body, `v120`, as a closed form of the block. -/
theorem p38 (v42 : FVec Ideal S128x8 .f32) (v68 : IVec S8x512 32) (v69 : IVec S8x512 32) (c64_i32 : BitVec 32)
    (hv42 : Is v42 (B.cs)) (h81 : Is (k0_pay30 (F := Ideal) v68 v69 c64_i32) (fun h l => if hd l = h then 1 else 0)) :
    Is (k0_pay38 (F := Ideal) v42 v68 v69 c64_i32) (fun i l => Real.exp (B.cs i (hd l))) := by
  intro i j
  pointwise [k0_pay33, k0_pay34, k0_pay38]
  all_goals simp only [hv42 _ _, h81 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 41 of the body, `v129`, as a closed form of the block. -/
theorem p41 (v45 : Vec Ideal S128x512 .f32) (v111 : FVec Ideal S128x512 .f32)
    (hv45 : Is v45 (B.x)) (hv111 : Is v111 (fun i l => B.dt i (hd l))) :
    Is (k0_pay41 (F := Ideal) v45 v111) (B.xdt) := by
  intro i j
  pointwise [k0_pay41]
  all_goals simp only [hv45 _ _, hv111 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 42 of the body, `v130`, as a closed form of the block. -/
theorem p42 (v46 : Vec Ideal S128x512 .f32) (v81 : FVec Ideal S8x512 .bf16) (v116 : FVec Ideal S128x8 .bf16) (v119 : FVec Ideal S128x8 .bf16) (v120 : FVec Ideal S128x512 .f32)
    (hv46 : Is v46 (B.dy)) (hv81 : Is v81 (fun h l => if hd l = h then 1 else 0)) (hv116 : Is v116 (fun _ _ => 0)) (hv119 : Is v119 (fun _ _ => 0)) (hv120 : Is v120 (fun i l => Real.exp (B.cs i (hd l)))) :
    Is (k0_pay42 (F := Ideal) v46 v81 v116 v119 v120) (B.dye) := by
  intro i j
  pointwise [k0_pay42]
  all_goals simp only [hv46 _ _, hv81 _ _, hv116 _ _, hv119 _ _, hv120 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 54 of the body, `v177`, as a closed form of the block. -/
theorem p54
     :
    IsB (k0_pay54 ) (fun _ l => decide (l.val < 64)) := by
  intro i j
  pointwise [k0_pay54]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 55 of the body, `v179`, as a closed form of the block. -/
theorem p55 (v129 : FVec Ideal S128x512 .f32)
    (hv129 : Is v129 (B.xdt)) :
    Is (k0_pay55 (F := Ideal) v129) (fun j l => B.xdt j (lq 0 l)) := by
  intro i j
  pointwise [k0_pay55]
  all_goals simp only [hv129 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 56 of the body, `v180`, as a closed form of the block. -/
theorem p56 (v46 : Vec Ideal S128x512 .f32)
    (hv46 : Is v46 (B.dy)) :
    Is (k0_pay56 (F := Ideal) v46) (fun j l => B.dy j (lq 0 l)) := by
  intro i j
  pointwise [k0_pay56]
  all_goals simp only [hv46 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 63 of the body, `v209`, as a closed form of the block. -/
theorem p63 (v11 : IVec S128x128 1) (v42 : FVec Ideal S128x8 .f32) (v46 : Vec Ideal S128x512 .f32) (v99 : FVec Ideal S8x128 .f32) (v129 : FVec Ideal S128x512 .f32)
    (hv11 : IsB v11 (fun i j => B.le j i)) (hv42 : Is v42 (B.cs)) (hv46 : Is v46 (B.dy)) (hv99 : Is v99 (fun h i => B.cs i h)) (hv129 : Is v129 (B.xdt)) :
    Is (k0_pay63 (F := Ideal) v11 v42 v46 v99 v129) (B.dcbTo 1) := by
  intro i j
  pointwise [k0_pay54, k0_pay55, k0_pay56, k0_pay57, k0_pay58, k0_pay59, k0_pay61, k0_pay63]
  all_goals simp only [hv11 _ _, hv42 _ _, hv46 _ _, hv99 _ _, hv129 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals first | exact rfl | exact B.dcbTo_one _ _

/-- Stage 74 of the body, `v251`, as a closed form of the block. -/
theorem p74 (v11 : IVec S128x128 1) (v42 : FVec Ideal S128x8 .f32) (v99 : FVec Ideal S8x128 .f32) (v177 : IVec S128x128 1) (v179 : FVec Ideal S128x128 .f32) (v180 : FVec Ideal S128x128 .f32) (v209 : FVec Ideal S128x128 .f32)
    (hv11 : IsB v11 (fun i j => B.le j i)) (hv42 : Is v42 (B.cs)) (hv99 : Is v99 (fun h i => B.cs i h)) (hv177 : IsB v177 (fun _ l => decide (l.val < 64))) (hv179 : Is v179 (fun j l => B.xdt j (lq 0 l))) (hv180 : Is v180 (fun j l => B.dy j (lq 0 l))) (hv209 : Is v209 (B.dcbTo 1)) :
    Is (k0_pay74 (F := Ideal) v11 v42 v99 v177 v179 v180 v209) (B.dcbTo 2) := by
  intro i j
  pointwise [k0_pay68, k0_pay69, k0_pay70, k0_pay72, k0_pay74]
  all_goals simp only [hv11 _ _, hv42 _ _, hv99 _ _, hv177 _ _, hv179 _ _, hv180 _ _, hv209 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals first | exact rfl | exact B.dcbTo_succ 1 _ _

end Cert.KernelIdeal.Ssd
end
-- ==== Proof.ScanPayB.lean ====
module
public import proofs.«01_k».proof.Proof.ScanPayA
public import proofs.«01_k».proof.Proof.Gen.KernelIdeal.Skeleton
@[expose] public section
set_option maxRecDepth 16384
noncomputable section
namespace Cert.KernelIdeal.Ssd
open Idealize.ShloMosaic Idealize.ShloMosaic.TcCoe Idealize.SL.Sem
open Cert.KernelIdeal Cert.KernelIdeal.Gen Cert.Ssd
variable (B : Base) (H G : Fin 128 → Fin 512 → ℝ) (A : Fin 8 → ℝ) (dv : Fin 512 → ℝ) (s : ℝ)

/-- Stage 79 of the body, `v269`, as a closed form of the block. -/
theorem p79 (v129 : FVec Ideal S128x512 .f32)
    (hv129 : Is v129 (B.xdt)) :
    Is (k0_pay79 (F := Ideal) v129) (fun j l => B.xdt j (lq 1 l)) := by
  intro i j
  pointwise [k0_pay79]
  all_goals simp only [hv129 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 80 of the body, `v270`, as a closed form of the block. -/
theorem p80 (v46 : Vec Ideal S128x512 .f32)
    (hv46 : Is v46 (B.dy)) :
    Is (k0_pay80 (F := Ideal) v46) (fun j l => B.dy j (lq 1 l)) := by
  intro i j
  pointwise [k0_pay80]
  all_goals simp only [hv46 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 87 of the body, `v299`, as a closed form of the block. -/
theorem p87 (v11 : IVec S128x128 1) (v42 : FVec Ideal S128x8 .f32) (v46 : Vec Ideal S128x512 .f32) (v99 : FVec Ideal S8x128 .f32) (v129 : FVec Ideal S128x512 .f32) (v177 : IVec S128x128 1) (v251 : FVec Ideal S128x128 .f32)
    (hv11 : IsB v11 (fun i j => B.le j i)) (hv42 : Is v42 (B.cs)) (hv46 : Is v46 (B.dy)) (hv99 : Is v99 (fun h i => B.cs i h)) (hv129 : Is v129 (B.xdt)) (hv177 : IsB v177 (fun _ l => decide (l.val < 64))) (hv251 : Is v251 (B.dcbTo 2)) :
    Is (k0_pay87 (F := Ideal) v11 v42 v46 v99 v129 v177 v251) (B.dcbTo 3) := by
  intro i j
  pointwise [k0_pay79, k0_pay80, k0_pay81, k0_pay82, k0_pay83, k0_pay85, k0_pay87]
  all_goals simp only [hv11 _ _, hv42 _ _, hv46 _ _, hv99 _ _, hv129 _ _, hv177 _ _, hv251 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals first | exact rfl | exact B.dcbTo_succ 2 _ _

/-- Stage 97 of the body, `v341`, as a closed form of the block. -/
theorem p97 (v11 : IVec S128x128 1) (v42 : FVec Ideal S128x8 .f32) (v99 : FVec Ideal S8x128 .f32) (v177 : IVec S128x128 1) (v269 : FVec Ideal S128x128 .f32) (v270 : FVec Ideal S128x128 .f32) (v299 : FVec Ideal S128x128 .f32)
    (hv11 : IsB v11 (fun i j => B.le j i)) (hv42 : Is v42 (B.cs)) (hv99 : Is v99 (fun h i => B.cs i h)) (hv177 : IsB v177 (fun _ l => decide (l.val < 64))) (hv269 : Is v269 (fun j l => B.xdt j (lq 1 l))) (hv270 : Is v270 (fun j l => B.dy j (lq 1 l))) (hv299 : Is v299 (B.dcbTo 3)) :
    Is (k0_pay97 (F := Ideal) v11 v42 v99 v177 v269 v270 v299) (B.dcbTo 4) := by
  intro i j
  pointwise [k0_pay91, k0_pay92, k0_pay93, k0_pay95, k0_pay97]
  all_goals simp only [hv11 _ _, hv42 _ _, hv99 _ _, hv177 _ _, hv269 _ _, hv270 _ _, hv299 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals first | exact rfl | exact B.dcbTo_succ 3 _ _

/-- Stage 101 of the body, `v359`, as a closed form of the block. -/
theorem p101 (v129 : FVec Ideal S128x512 .f32)
    (hv129 : Is v129 (B.xdt)) :
    Is (k0_pay101 (F := Ideal) v129) (fun j l => B.xdt j (lq 2 l)) := by
  intro i j
  pointwise [k0_pay101]
  all_goals simp only [hv129 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 102 of the body, `v360`, as a closed form of the block. -/
theorem p102 (v46 : Vec Ideal S128x512 .f32)
    (hv46 : Is v46 (B.dy)) :
    Is (k0_pay102 (F := Ideal) v46) (fun j l => B.dy j (lq 2 l)) := by
  intro i j
  pointwise [k0_pay102]
  all_goals simp only [hv46 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 109 of the body, `v389`, as a closed form of the block. -/
theorem p109 (v11 : IVec S128x128 1) (v42 : FVec Ideal S128x8 .f32) (v46 : Vec Ideal S128x512 .f32) (v99 : FVec Ideal S8x128 .f32) (v129 : FVec Ideal S128x512 .f32) (v177 : IVec S128x128 1) (v341 : FVec Ideal S128x128 .f32)
    (hv11 : IsB v11 (fun i j => B.le j i)) (hv42 : Is v42 (B.cs)) (hv46 : Is v46 (B.dy)) (hv99 : Is v99 (fun h i => B.cs i h)) (hv129 : Is v129 (B.xdt)) (hv177 : IsB v177 (fun _ l => decide (l.val < 64))) (hv341 : Is v341 (B.dcbTo 4)) :
    Is (k0_pay109 (F := Ideal) v11 v42 v46 v99 v129 v177 v341) (B.dcbTo 5) := by
  intro i j
  pointwise [k0_pay101, k0_pay102, k0_pay103, k0_pay104, k0_pay105, k0_pay107, k0_pay109]
  all_goals simp only [hv11 _ _, hv42 _ _, hv46 _ _, hv99 _ _, hv129 _ _, hv177 _ _, hv341 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals first | exact rfl | exact B.dcbTo_succ 4 _ _

/-- Stage 119 of the body, `v431`, as a closed form of the block. -/
theorem p119 (v11 : IVec S128x128 1) (v42 : FVec Ideal S128x8 .f32) (v99 : FVec Ideal S8x128 .f32) (v177 : IVec S128x128 1) (v359 : FVec Ideal S128x128 .f32) (v360 : FVec Ideal S128x128 .f32) (v389 : FVec Ideal S128x128 .f32)
    (hv11 : IsB v11 (fun i j => B.le j i)) (hv42 : Is v42 (B.cs)) (hv99 : Is v99 (fun h i => B.cs i h)) (hv177 : IsB v177 (fun _ l => decide (l.val < 64))) (hv359 : Is v359 (fun j l => B.xdt j (lq 2 l))) (hv360 : Is v360 (fun j l => B.dy j (lq 2 l))) (hv389 : Is v389 (B.dcbTo 5)) :
    Is (k0_pay119 (F := Ideal) v11 v42 v99 v177 v359 v360 v389) (B.dcbTo 6) := by
  intro i j
  pointwise [k0_pay113, k0_pay114, k0_pay115, k0_pay117, k0_pay119]
  all_goals simp only [hv11 _ _, hv42 _ _, hv99 _ _, hv177 _ _, hv359 _ _, hv360 _ _, hv389 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals first | exact rfl | exact B.dcbTo_succ 5 _ _

/-- Stage 123 of the body, `v449`, as a closed form of the block. -/
theorem p123 (v129 : FVec Ideal S128x512 .f32)
    (hv129 : Is v129 (B.xdt)) :
    Is (k0_pay123 (F := Ideal) v129) (fun j l => B.xdt j (lq 3 l)) := by
  intro i j
  pointwise [k0_pay123]
  all_goals simp only [hv129 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 124 of the body, `v450`, as a closed form of the block. -/
theorem p124 (v46 : Vec Ideal S128x512 .f32)
    (hv46 : Is v46 (B.dy)) :
    Is (k0_pay124 (F := Ideal) v46) (fun j l => B.dy j (lq 3 l)) := by
  intro i j
  pointwise [k0_pay124]
  all_goals simp only [hv46 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

/-- Stage 131 of the body, `v479`, as a closed form of the block. -/
theorem p131 (v11 : IVec S128x128 1) (v42 : FVec Ideal S128x8 .f32) (v46 : Vec Ideal S128x512 .f32) (v99 : FVec Ideal S8x128 .f32) (v129 : FVec Ideal S128x512 .f32) (v177 : IVec S128x128 1) (v431 : FVec Ideal S128x128 .f32)
    (hv11 : IsB v11 (fun i j => B.le j i)) (hv42 : Is v42 (B.cs)) (hv46 : Is v46 (B.dy)) (hv99 : Is v99 (fun h i => B.cs i h)) (hv129 : Is v129 (B.xdt)) (hv177 : IsB v177 (fun _ l => decide (l.val < 64))) (hv431 : Is v431 (B.dcbTo 6)) :
    Is (k0_pay131 (F := Ideal) v11 v42 v46 v99 v129 v177 v431) (B.dcbTo 7) := by
  intro i j
  pointwise [k0_pay123, k0_pay124, k0_pay125, k0_pay126, k0_pay127, k0_pay129, k0_pay131]
  all_goals simp only [hv11 _ _, hv42 _ _, hv46 _ _, hv99 _ _, hv129 _ _, hv177 _ _, hv431 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals first | exact rfl | exact B.dcbTo_succ 6 _ _

/-- Stage 142 of the body, `v521`, as a closed form of the block. -/
theorem p142 (v11 : IVec S128x128 1) (v42 : FVec Ideal S128x8 .f32) (v99 : FVec Ideal S8x128 .f32) (v177 : IVec S128x128 1) (v449 : FVec Ideal S128x128 .f32) (v450 : FVec Ideal S128x128 .f32) (v479 : FVec Ideal S128x128 .f32)
    (hv11 : IsB v11 (fun i j => B.le j i)) (hv42 : Is v42 (B.cs)) (hv99 : Is v99 (fun h i => B.cs i h)) (hv177 : IsB v177 (fun _ l => decide (l.val < 64))) (hv449 : Is v449 (fun j l => B.xdt j (lq 3 l))) (hv450 : Is v450 (fun j l => B.dy j (lq 3 l))) (hv479 : Is v479 (B.dcbTo 7)) :
    Is (k0_pay142 (F := Ideal) v11 v42 v99 v177 v449 v450 v479) (B.dcbTo 8) := by
  intro i j
  pointwise [k0_pay136, k0_pay137, k0_pay138, k0_pay140, k0_pay142]
  all_goals simp only [hv11 _ _, hv42 _ _, hv99 _ _, hv177 _ _, hv449 _ _, hv450 _ _, hv479 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals first | exact rfl | exact B.dcbTo_succ 7 _ _

/-- Stage 149 of the body, `v558`, as a closed form of the block. -/
theorem p149 (v48 : FVec Ideal S128x128 .bf16) (v61 : FVec Ideal S128x512 .bf16) (v130 : FVec Ideal S128x512 .f32) (v521 : FVec Ideal S128x128 .f32)
    (hv48 : Is v48 (B.b)) (hv61 : Is v61 (H)) (hv130 : Is v130 (B.dye)) (hv521 : Is v521 (B.dcbTo 8)) :
    ∀ (i n : Fin 128), k0_pay149 (F := Ideal) v48 v61 v130 v521 (ix3 0 i n) = ((B.dC H i n : ℝ) : EReal) := by
  intro i n
  pointwise [k0_pay148, k0_pay149]
  all_goals simp only [hv48 _ _, hv61 _ _, hv130 _ _, hv521 _ _]
  all_goals try simp only [sitofp_eq, head_eq0, head_eq1, head_eq2, head_eq3, head_eq4, head_eq5, head_eq6, head_eq7, Ideal.exp_coe, sel, mask_bot, lane_low, coe_ite, exp_mask, ← EReal.coe_zero, ← EReal.coe_one, ← EReal.coe_mul, ← EReal.coe_add, ← EReal.coe_sub, ← coe_sum]
  all_goals first | exact rfl | skip
  all_goals refine coe_eq ?_
  all_goals try simp only [Base.dcbTo_all, decide_eq_true_eq, neg_sub, int_ofBool, Base.dm_lo0, Base.dm_hi0, Base.dm_lo1, Base.dm_hi1, Base.dm_lo2, Base.dm_hi2, Base.dm_lo3, Base.dm_hi3, sub_self, zero_mul, mul_zero, Finset.sum_const_zero, add_zero, zero_add, sub_zero, zero_sub, sum_head, sum_spread, lq0, lq1, lq2, lq3]
  all_goals exact rfl

end Cert.KernelIdeal.Ssd
end
-- ==== Proof.ScanStep.lean ====
/- One step of the body at a place of the grid: the values it computes one after the other, each read as the closed form of
   the chunk it stands for, up to the block of the output projection's gradient it stores. -/
module

public import proofs.«01_k».proof.Proof.Gen.KernelIdeal.Frame
public import proofs.«01_k».proof.Proof.ScanPayA
public import proofs.«01_k».proof.Proof.ScanPayB
public import Idealize.ShloMosaic.Lib.Pipeline.ValueKit

@[expose] public section

set_option maxRecDepth 16384
set_option maxHeartbeats 1600000

noncomputable section

namespace Cert.KernelIdeal.Ssd

open Idealize.ShloMosaic Idealize.ShloMosaic.TcCoe Idealize.SL.Sem
open Cert.KernelIdeal Cert.KernelIdeal.Gen Cert.Ssd

theorem hzero : (Scalar.ofBits .f32 0x00000000#32 : Ideal .f32) = ((0 : ℝ) : EReal) := by
  rw [EReal.coe_zero]; exact Ideal.ofBits_zero _

theorem hcst : Is (constant (F := Ideal) S128x8 .f32 0x00000000#32) (fun _ _ => 0) := by
  intro i j; exact hzero

theorem head_mask (h : Fin 8) (l : Fin 512) :
    (BitVec.setWidth 32 (IntOp.andi (IntOp.cmpi .sge (BitVec.ofNat 32 l.val) (IntOp.muli (BitVec.ofNat 32 h.val) 64#32))
      (IntOp.cmpi .slt (BitVec.ofNat 32 l.val) (IntOp.muli (IntOp.addi (BitVec.ofNat 32 h.val) 1#32) 64#32)))).toInt =
      if hd l = h then 1 else 0 := by
  revert h l; decide +kernel

/-- Which lanes belong to a head. -/
theorem q81 : Is (k0_pay30 (F := Ideal) (iota Kind.tc S8x512 32 [0] iota_S8x512_d0_w32) (iota Kind.tc S8x512 32 [1] iota_S8x512_d1_w32) 64#32) (fun h l => if hd l = h then 1 else 0) := by
  intro h l
  pointwise [k0_pay30]
  rw [sitofp_eq, head_mask]
  split <;> simp

variable (m : (ℓ : Loc nD τ sig) → Buf (Elt Ideal) ℓ) (c : Dev nD)
variable {B : Base} {H : Fin 128 → Fin 512 → ℝ}

/-- The blocks a place of the grid is given hold the data of the chunk `B`, and the entering state `H`. -/
structure Ok (t : Fin cfg0.N) (B : Base) (H : Fin 128 → Fin 512 → ℝ) : Prop where
  m11 : IsB (k0_pay5 (grid0.coords t)) (fun i j => B.le j i)
  x : Is (iblk m c 0 t : Vec Ideal S128x512 .f32) B.x
  b : Is (iblk m c 1 t : Vec Ideal S128x128 .f32) B.b
  cm : Is (iblk m c 2 t : Vec Ideal S128x128 .f32) B.c
  dt : ∀ i h, (iblk m c 3 t : Vec Ideal S1x1x128x8 .f32) (ix4 0 0 i h) = ((B.dt i h : ℝ) : EReal)
  al : ∀ h, 0 - Ideal.exp ((iblk m c 4 t : Vec Ideal S1x1x1x8 .f32) (ix4 0 0 0 h)) = ((B.a h : ℝ) : EReal)
  h : ∀ n l, (iblk m c 5 t : Vec Ideal S1x1x1x128x512 .f32) (ix5 0 0 0 n l) = ((H n l : ℝ) : EReal)
  dy : Is (iblk m c 6 t : Vec Ideal S128x512 .f32) B.dy

/-- At the first chunk of a group of heads the stored block is the chunk's gradient. -/
theorem dc_A (t : Fin cfg0.N) (h : t.val % 16 = 0) (O : Ok m c t B H) (i n : Fin 128) :
    (outsAt0 m c t.val t.isLt).2.2.1 (ix3 0 i n) = ((B.dC H i n : ℝ) : EReal) := by
  have q11 := O.m11
  have q22 := p8 B _ O.dt
  have q30 := p11 B _ O.m11
  have q34 := p14 B _ _ O.dt O.al
  have q37 := p15 B _ _ O.dt O.al
  have q38 := p16 B _ _ _ O.dt O.al O.m11
  have q42 := p17 B _ _ _ _ _ q30 q34 q37 q38 hcst
  have q48 := p19 B _ O.b
  have q61 := p25 H _ O.h
  have q99 := p31 B _ q42
  have q111 := p32 B _ _ _ _ q22 q81
  have q116 := p36 B _ q42
  have q119 := p37 B _ q42
  have q120 := p38 B _ _ _ _ q42 q81
  have q129 := p41 B _ _ O.x q111
  have q130 := p42 B _ _ _ _ _ O.dy q81 q116 q119 q120
  have q177 := p54
  have q179 := p55 B _ q129
  have q180 := p56 B _ O.dy
  have q209 := p63 B _ _ _ _ _ q11 q42 O.dy q99 q129
  have q251 := p74 B _ _ _ _ _ _ _ q11 q42 q99 q177 q179 q180 q209
  have q269 := p79 B _ q129
  have q270 := p80 B _ O.dy
  have q299 := p87 B _ _ _ _ _ _ _ q11 q42 O.dy q99 q129 q177 q251
  have q341 := p97 B _ _ _ _ _ _ _ q11 q42 q99 q177 q269 q270 q299
  have q359 := p101 B _ q129
  have q360 := p102 B _ O.dy
  have q389 := p109 B _ _ _ _ _ _ _ q11 q42 O.dy q99 q129 q177 q341
  have q431 := p119 B _ _ _ _ _ _ _ q11 q42 q99 q177 q359 q360 q389
  have q449 := p123 B _ q129
  have q450 := p124 B _ O.dy
  have q479 := p131 B _ _ _ _ _ _ _ q11 q42 O.dy q99 q129 q177 q431
  have q521 := p142 B _ _ _ _ _ _ _ q11 q42 q99 q177 q449 q450 q479
  have q149 := p149 B H _ _ _ _ q48 q61 q130 q521 i n
  rw [outsAt0_A m c t h]
  frame_out
  exact q149

/-- At a later chunk of a group of heads the stored block is the chunk's gradient. -/
theorem dc_B (t : Fin cfg0.N) (h : ¬t.val % 16 = 0) (O : Ok m c t B H) (i n : Fin 128) :
    (outsAt0 m c t.val t.isLt).2.2.1 (ix3 0 i n) = ((B.dC H i n : ℝ) : EReal) := by
  have q11 := O.m11
  have q22 := p8 B _ O.dt
  have q30 := p11 B _ O.m11
  have q34 := p14 B _ _ O.dt O.al
  have q37 := p15 B _ _ O.dt O.al
  have q38 := p16 B _ _ _ O.dt O.al O.m11
  have q42 := p17 B _ _ _ _ _ q30 q34 q37 q38 hcst
  have q48 := p19 B _ O.b
  have q61 := p25 H _ O.h
  have q99 := p31 B _ q42
  have q111 := p32 B _ _ _ _ q22 q81
  have q116 := p36 B _ q42
  have q119 := p37 B _ q42
  have q120 := p38 B _ _ _ _ q42 q81
  have q129 := p41 B _ _ O.x q111
  have q130 := p42 B _ _ _ _ _ O.dy q81 q116 q119 q120
  have q177 := p54
  have q179 := p55 B _ q129
  have q180 := p56 B _ O.dy
  have q209 := p63 B _ _ _ _ _ q11 q42 O.dy q99 q129
  have q251 := p74 B _ _ _ _ _ _ _ q11 q42 q99 q177 q179 q180 q209
  have q269 := p79 B _ q129
  have q270 := p80 B _ O.dy
  have q299 := p87 B _ _ _ _ _ _ _ q11 q42 O.dy q99 q129 q177 q251
  have q341 := p97 B _ _ _ _ _ _ _ q11 q42 q99 q177 q269 q270 q299
  have q359 := p101 B _ q129
  have q360 := p102 B _ O.dy
  have q389 := p109 B _ _ _ _ _ _ _ q11 q42 O.dy q99 q129 q177 q341
  have q431 := p119 B _ _ _ _ _ _ _ q11 q42 q99 q177 q359 q360 q389
  have q449 := p123 B _ q129
  have q450 := p124 B _ O.dy
  have q479 := p131 B _ _ _ _ _ _ _ q11 q42 O.dy q99 q129 q177 q431
  have q521 := p142 B _ _ _ _ _ _ _ q11 q42 q99 q177 q449 q450 q479
  have q149 := p149 B H _ _ _ _ q48 q61 q130 q521 i n
  rw [outsAt0_B m c t h]
  frame_out
  exact q149

/-- The stored block is the chunk's gradient. -/
theorem dc (t : Fin cfg0.N) (O : Ok m c t B H) (i n : Fin 128) :
    (outsAt0 m c t.val t.isLt).2.2.1 (ix3 0 i n) = ((B.dC H i n : ℝ) : EReal) := by
  by_cases h : t.val % 16 = 0
  · exact dc_A m c t h O i n
  · exact dc_B m c t h O i n

end Cert.KernelIdeal.Ssd

end
-- ==== Proof.ScanData.lean ====
/- The arguments as reals, and the chunks of the scan cut out of them, as the rows lie and as a direction reads them. -/
module

public import proofs.«01_k».proof.Proof.ScanSpec

@[expose] public section

noncomputable section

namespace Cert.Ssd

open Idealize.ShloMosaic

/-- The arguments of both programs as arrays of reals. -/
structure Args where
  xb : Fin 2048 → Fin 6144 → ℝ
  dt : Fin 2048 → Fin 128 → ℝ
  al : Fin 2 → Fin 64 → ℝ
  h : Fin 2 → Fin 16 → Fin 8 → Fin 8 → Fin 64 → Fin 128 → ℝ
  dy : Fin 2048 → Fin 4096 → ℝ

/-- The row a direction reads at a place: the second direction reads the rows backwards. -/
def lr (d : Fin 2) (n : Fin 2048) : Fin 2048 := if d = 0 then n else ⟨2047 - n.val, by omega⟩

/-- The place of a chunk's row. -/
def pos (k : Fin 16) (i : Fin 128) : Fin 2048 := ⟨k.val * 128 + i.val, by omega⟩

/-- The chunk a place lies in, and its row there. -/
def chk (n : Fin 2048) : Fin 16 := ⟨n.val / 128, by omega⟩
def row (n : Fin 2048) : Fin 128 := ⟨n.val % 128, by omega⟩

theorem pos_chk (n : Fin 2048) : pos (chk n) (row n) = n := by
  apply Fin.ext; simp only [pos, chk, row]; omega

theorem chk_pos (k : Fin 16) (i : Fin 128) : chk (pos k i) = k := by
  apply Fin.ext; simp only [pos, chk]; omega
theorem row_pos (k : Fin 16) (i : Fin 128) : row (pos k i) = i := by
  apply Fin.ext; simp only [pos, row]; omega

/-- The chunk a direction reads in the place of another: the second direction reads the chunks backwards. -/
def lc (d : Fin 2) (k : Fin 16) : Fin 16 := if d = 0 then k else ⟨15 - k.val, by omega⟩

/-- The row of a chunk a direction reads in the place of another. -/
def le' (d : Fin 2) (i : Fin 128) : Fin 128 := if d = 0 then i else ⟨127 - i.val, by omega⟩

theorem le'_le' (d : Fin 2) (i : Fin 128) : le' d (le' d i) = i := by
  unfold le'; split
  · rfl
  · apply Fin.ext; show 127 - (127 - i.val) = i.val; omega

/-- The rows of a chunk as a direction reads them. -/
def flipRow (d : Fin 2) : Fin 128 ≃ Fin 128 := ⟨le' d, le' d, le'_le' d, le'_le' d⟩

/-- A direction's place in a chunk is a row of the chunk the rows lie in. -/
theorem lr_pos (d : Fin 2) (k : Fin 16) (i : Fin 128) : lr d (pos k i) = pos (lc d k) (le' d i) := by
  unfold lr lc le'; split
  · rfl
  · apply Fin.ext; simp only [pos]; omega

theorem chk_lr (d : Fin 2) (n : Fin 2048) : chk (lr d n) = lc d (chk n) := by
  unfold lr lc; split
  · rfl
  · apply Fin.ext; simp only [chk]; omega

theorem row_lr (d : Fin 2) (n : Fin 2048) : row (lr d n) = le' d (row n) := by
  unfold lr le'; split
  · rfl
  · apply Fin.ext; simp only [row]; omega

theorem lc_lc (d : Fin 2) (k : Fin 16) : lc d (lc d k) = k := by
  unfold lc; split
  · rfl
  · apply Fin.ext; show 15 - (15 - k.val) = k.val; omega

theorem lr_lr (d : Fin 2) (n : Fin 2048) : lr d (lr d n) = n := by
  unfold lr; split
  · rfl
  · apply Fin.ext; show 2047 - (2047 - n.val) = n.val; omega

/-- A head among all of them, and a lane among all of them. -/
def gh (g h : Fin 8) : Fin 64 := ⟨g.val * 8 + h.val, by omega⟩

namespace Args

variable (A : Args)

/-- One chunk of one group of heads, its rows as they lie; the second direction runs through them backwards. -/
def pb (d : Fin 2) (g : Fin 8) (k : Fin 16) : Base where
  le j i := if d = 0 then decide (j ≤ i) else decide (i ≤ j)
  x i l := A.xb (pos k i) ⟨512 * g.val + l.val, by omega⟩
  dy i l := A.dy (pos k i) ⟨512 * g.val + l.val, by omega⟩
  b i n := A.xb (pos k i) ⟨4096 + 128 * g.val + n.val, by omega⟩
  c i n := A.xb (pos k i) ⟨5120 + 128 * g.val + n.val, by omega⟩
  dt i h := A.dt (pos k i) ⟨64 * d.val + 8 * g.val + h.val, by omega⟩
  a h := -Real.exp (A.al d (gh g h))

/-- One chunk of one group of heads, its rows as a direction reads them. -/
def blk (d : Fin 2) (g : Fin 8) (k : Fin 16) : Base where
  le j i := decide (j ≤ i)
  x i l := A.xb (lr d (pos k i)) ⟨512 * g.val + l.val, by omega⟩
  dy i l := A.dy (lr d (pos k i)) ⟨512 * g.val + l.val, by omega⟩
  b i n := A.xb (lr d (pos k i)) ⟨4096 + 128 * g.val + n.val, by omega⟩
  c i n := A.xb (lr d (pos k i)) ⟨5120 + 128 * g.val + n.val, by omega⟩
  dt i h := A.dt (lr d (pos k i)) ⟨64 * d.val + 8 * g.val + h.val, by omega⟩
  a h := -Real.exp (A.al d (gh g h))

/-- The state that enters a direction's chunk. -/
def Hk (d : Fin 2) (g : Fin 8) (k : Fin 16) (n : Fin 128) (l : Fin 512) : ℝ :=
  A.h d k g (hd l) ⟨l.val % 64, by omega⟩ n

/-- A chunk as a direction reads it is the chunk as it lies, its rows renamed. -/
theorem blk_eq (d : Fin 2) (g : Fin 8) (k : Fin 16) : A.blk d g k = (A.pb d g (lc d k)).re (flipRow d) := by
  unfold blk pb Base.re
  simp only [lr_pos]
  congr 1
  funext j i
  show decide (j ≤ i) = if d = 0 then decide (le' d j ≤ le' d i) else decide (le' d i ≤ le' d j)
  unfold le'
  split
  · rfl
  · rw [decide_eq_decide, Fin.le_def, Fin.le_def]
    show j.val ≤ i.val ↔ 127 - i.val ≤ 127 - j.val
    omega

/-- The gradient of the output projection, at the row and column the result stores it in. -/
def odC (d : Fin 2) (n : Fin 2048) (l : Fin 1024) : ℝ :=
  (A.pb d ⟨l.val / 128, by omega⟩ (chk n)).dC (A.Hk d ⟨l.val / 128, by omega⟩ (lc d (chk n))) (row n) ⟨l.val % 128, by omega⟩

/-- The same from the chunk as the direction reads it. -/
theorem odC_eq (d : Fin 2) (n : Fin 2048) (l : Fin 1024) : A.odC d n l =
    (A.blk d ⟨l.val / 128, by omega⟩ (chk (lr d n))).dC (A.Hk d ⟨l.val / 128, by omega⟩ (chk (lr d n))) (row (lr d n))
      ⟨l.val % 128, by omega⟩ := by
  rw [blk_eq, Base.re_dC, chk_lr, row_lr, lc_lc]
  show _ = Base.dC _ _ (le' d (le' d (row n))) _
  rw [le'_le']; rfl

end Args

end Cert.Ssd

end
-- ==== Proof.ScanEntry.lean ====
module

public import proofs.«01_k».proof.Proof.Gen.KernelIdeal.Frame
public import proofs.«01_k».proof.Proof.ScanData
public import Idealize.ShloMosaic.Lib.Pipeline.ValueKit
public import Idealize.ShloMosaic.Lib.Pointwise
public import Idealize.ShloMosaic.Lib.Claim

/-! The arrays the host prepares before the scan's call: the time steps by group, the decay parameters by group, the
    entering states with the second direction turned round. -/

@[expose] public section

set_option maxRecDepth 16384
set_option maxHeartbeats 1600000

noncomputable section

namespace Cert.KernelIdeal.Ssd

open Idealize.ShloMosaic Idealize.ShloMosaic.TcCoe Idealize.SL.Sem
open Cert.KernelIdeal Cert.KernelIdeal.Gen Cert.Ssd

variable (m : (ℓ : Loc nD τ sig) → Buf (Elt Ideal) ℓ)

/-- The time steps by direction and group. -/
theorem entry_dt (c : Dev nD) (d : Fin 2) (g : Fin 8) (n : Fin 2048) (h : Fin 8) :
    (V m c main_v14 : FVec Ideal S2x8x2048x8 .f32) (ix4 d g n h)
      = (id (α := FVec Ideal S2048x128 .f32) (m ((c : Thread nD τ).loc main_arg1)))
          (ix2 n ⟨d.val * 64 + g.val * 8 + h.val, by omega⟩) := by
  show StableHlo.after [hostOps0, hostOps0_1, hostOps0_2].flatten (fun b => m (c, b)) (Proc.tc.devRef main_v14) _ = _
  simp only [hostOps0, hostOps0_1, hostOps0_2, List.flatten_cons, List.flatten_nil, List.append_nil, List.cons_append,
    List.nil_append]
  entry_read
  pointwise
  rfl

/-- The decay parameters by direction and group. -/
theorem entry_al (c : Dev nD) (d : Fin 2) (g h : Fin 8) :
    (V m c main_v15 : FVec Ideal S2x8x1x8 .f32) (ix4 d g 0 h)
      = (id (α := FVec Ideal S2x64 .f32) (m ((c : Thread nD τ).loc main_arg2))) (ix2 d (gh g h)) := by
  show StableHlo.after [hostOps0, hostOps0_1, hostOps0_2].flatten (fun b => m (c, b)) (Proc.tc.devRef main_v15) _ = _
  simp only [hostOps0, hostOps0_1, hostOps0_2, List.flatten_cons, List.flatten_nil, List.append_nil, List.cons_append,
    List.nil_append]
  entry_read
  pointwise
  rfl

/-- The entering states by direction and group, the second direction's chunks turned round. -/
theorem entry_h (c : Dev nD) (d : Fin 2) (g : Fin 8) (k : Fin 16) (n : Fin 128) (l : Fin 512) :
    (V m c main_v9 : FVec Ideal S2x8x16x128x512 .f32) (ix5 d g k n l)
      = (id (α := FVec Ideal S2x16x8x8x64x128 .f32) (m ((c : Thread nD τ).loc main_arg3)))
          (ix6 d (lc d k) g (hd l) ⟨l.val % 64, by omega⟩ n) := by
  show StableHlo.after [hostOps0, hostOps0_1, hostOps0_2].flatten (fun b => m (c, b)) (Proc.tc.devRef main_v9) _ = _
  simp only [hostOps0, hostOps0_1, hostOps0_2, List.flatten_cons, List.flatten_nil, List.append_nil, List.cons_append,
    List.nil_append]
  entry_read
  simp only [StableHlo.TRef.ofBuf, StableHlo.TRef.toBuf, cast_eq]
  fin_cases d
  all_goals pointwise [lc]
  · rfl
  · have e : k.rev = (⟨15 - k.val, by omega⟩ : Fin 16) := Fin.ext (by simp only [Fin.val_rev]; omega)
    exact congrArg (fun q : Fin 16 => (m ((c : Thread nD τ).loc main_arg3) : FVec Ideal S2x16x8x8x64x128 .f32)
      (ix6 1 q g (hd l) ⟨l.val % 64, by omega⟩ n)) e

end Cert.KernelIdeal.Ssd

end
-- ==== Proof.ScanMask.lean ====
module

public import proofs.«01_k».proof.Proof.Gen.KernelIdeal.Frame
public import proofs.«01_k».proof.Proof.ScanData
public import Idealize.ShloMosaic.Lib.Pipeline.ValueKit
public import Idealize.ShloMosaic.Lib.Pointwise

/-! The places of the scan's grid: which blocks a place reads and writes, and which rows its mask lets through. -/

@[expose] public section

set_option maxRecDepth 16384
set_option maxHeartbeats 1600000

noncomputable section

namespace Cert.KernelIdeal.Ssd

open Idealize.ShloMosaic Idealize.ShloMosaic.TcCoe Idealize.SL.Sem
open Cert.KernelIdeal Cert.KernelIdeal.Gen Cert.Ssd

/-- The direction, the group and the chunk of a place. -/
@[irreducible] def td (t : Fin cfg0.N) : Fin 2 := Fin.ofNat 2 (t.val / 128)
@[irreducible] def tg (t : Fin cfg0.N) : Fin 8 := Fin.ofNat 8 (t.val / 16)
@[irreducible] def tc (t : Fin cfg0.N) : Fin 16 := if t.val / 128 = 0 then Fin.ofNat 16 (15 - t.val % 16) else Fin.ofNat 16 t.val

/-- The block each window reads or writes at a place. -/
theorem idx : ∀ t : Fin cfg0.N, win0_0.index t = ![(tc t).val, (tg t).val]
    ∧ win0_1.index t = ![(tc t).val, 32 + (tg t).val]
    ∧ win0_2.index t = ![(tc t).val, 40 + (tg t).val]
    ∧ win0_3.index t = ![(td t).val, (tg t).val, (tc t).val, 0]
    ∧ win0_4.index t = ![(td t).val, (tg t).val, 0, 0]
    ∧ win0_5.index t = ![(td t).val, (tg t).val, (tc t).val, 0, 0]
    ∧ win0_6.index t = ![(tc t).val, (tg t).val]
    ∧ win0_10.index t = ![(td t).val, (tc t).val, (tg t).val] :=
  (by decide +kernel : ∀ t : Fin grid0.N, _)

/-- The first coordinate of a place is its direction. -/
theorem coord (t : Fin cfg0.N) : (grid0.coords t 0).val = (td t).val :=
  (by decide +kernel : ∀ t : Fin grid0.N, (grid0.coords t 0).val = (td t).val) t

theorem fwd : ∀ i j : Fin 128, IntOp.cmpi CmpIPredicate.sle
    (IntOp.muli (IntOp.subi (BitVec.ofNat 32 j.val) (BitVec.ofNat 32 i.val))
      (Scalar.subi (1#32) (Scalar.muli (2#32) (BitVec.ofNat 32 0)))) 0#32 = BitVec.ofBool (decide (j ≤ i)) := by
  decide +kernel

theorem bwd : ∀ i j : Fin 128, IntOp.cmpi CmpIPredicate.sle
    (IntOp.muli (IntOp.subi (BitVec.ofNat 32 j.val) (BitVec.ofNat 32 i.val))
      (Scalar.subi (1#32) (Scalar.muli (2#32) (BitVec.ofNat 32 1)))) 0#32 = BitVec.ofBool (decide (i ≤ j)) := by
  decide +kernel

/-- The mask lets through the rows that do not come after a row in the direction of the place. -/
theorem mask (t : Fin cfg0.N) : IsB (k0_pay5 (grid0.coords t))
    (fun i j => if td t = 0 then decide (j ≤ i) else decide (i ≤ j)) := by
  intro i j
  pointwise [k0_pay5]
  rw [coord]
  rcases (by omega : (td t).val = 0 ∨ (td t).val = 1) with e | e
  · rw [e, if_pos (Fin.ext e), fwd]
  · rw [e, if_neg (fun h => by rw [h] at e; exact absurd e (by decide)), bwd]

end Cert.KernelIdeal.Ssd

end
-- ==== Proof.ScanBlk.lean ====
module

public import proofs.«01_k».proof.Proof.ScanStep
public import proofs.«01_k».proof.Proof.ScanEntry
public import proofs.«01_k».proof.Proof.ScanMask

/-! The blocks the scan's call is given at a place of its grid, as entries of the arguments. -/

@[expose] public section

set_option maxRecDepth 16384
set_option maxHeartbeats 200000

noncomputable section

namespace Cert.KernelIdeal.Ssd

open Idealize.ShloMosaic Idealize.ShloMosaic.TcCoe Idealize.SL.Sem
open Cert.KernelIdeal Cert.KernelIdeal.Gen Cert.Ssd

variable (m : (ℓ : Loc nD τ sig) → Buf (Elt Ideal) ℓ) (c : Dev nD)

/-- The block of inputs, a row and a lane. -/
theorem blk0 (t : Fin cfg0.N) (i : Fin 128) (l : Fin 512) : (iblk m c 0 t : Vec Ideal S128x512 .f32) (ix2 i l)
    = (m ((c : Thread nD τ).loc main_arg0) : FVec Ideal S2048x6144 .f32)
        (ix2 (pos (tc t) i) ⟨512 * (tg t).val + l.val, by omega⟩) := by
  blk_point [iblk, V, idx t, pos]

/-- The block of input projections. -/
theorem blk1 (t : Fin cfg0.N) (i n : Fin 128) : (iblk m c 1 t : Vec Ideal S128x128 .f32) (ix2 i n)
    = (m ((c : Thread nD τ).loc main_arg0) : FVec Ideal S2048x6144 .f32)
        (ix2 (pos (tc t) i) ⟨4096 + 128 * (tg t).val + n.val, by omega⟩) := by
  blk_point [iblk, V, idx t, pos]

/-- The block of output projections. -/
theorem blk2 (t : Fin cfg0.N) (i n : Fin 128) : (iblk m c 2 t : Vec Ideal S128x128 .f32) (ix2 i n)
    = (m ((c : Thread nD τ).loc main_arg0) : FVec Ideal S2048x6144 .f32)
        (ix2 (pos (tc t) i) ⟨5120 + 128 * (tg t).val + n.val, by omega⟩) := by
  blk_point [iblk, V, idx t, pos]

/-- The block of time steps. -/
theorem blk3 (t : Fin cfg0.N) (i : Fin 128) (h : Fin 8) : (iblk m c 3 t : Vec Ideal S1x1x128x8 .f32) (ix4 0 0 i h)
    = (V m c main_v14 : FVec Ideal S2x8x2048x8 .f32) (ix4 (td t) (tg t) (pos (tc t) i) h) := by
  blk_point [iblk, idx t, pos]

/-- The block of decay parameters. -/
theorem blk4 (t : Fin cfg0.N) (h : Fin 8) : (iblk m c 4 t : Vec Ideal S1x1x1x8 .f32) (ix4 0 0 0 h)
    = (V m c main_v15 : FVec Ideal S2x8x1x8 .f32) (ix4 (td t) (tg t) 0 h) := by
  blk_point [iblk, idx t, pos]

/-- Where an entry of the block of entering states lies. -/
theorem emb5 (t : Fin cfg0.N) (y : S1x1x1x128x512.Idx) : ((win0_5.blk t).view.emb y : S2x8x16x128x512.Idx)
    = ix5 (td t) (tg t) (tc t) (y 3) (y 4) := by
  blk_ext [idx t]

/-- A block of entering states, read out of an array. -/
theorem read5 (W : FVec Ideal S2x8x16x128x512 .f32) (t : Fin cfg0.N) (y : S1x1x1x128x512.Idx) :
    (View.read (Elt Ideal) (win0_5.blk t).view W : Vec Ideal S1x1x1x128x512 .f32) y = W (ix5 (td t) (tg t) (tc t) (y 3) (y 4)) :=
  congrArg W (emb5 t y)

theorem iblk5 (t : Fin cfg0.N) (y : S1x1x1x128x512.Idx) : (iblk m c 5 t : Vec Ideal S1x1x1x128x512 .f32) y
    = (View.read (Elt Ideal) (win0_5.blk t).view (V m c main_v9) : Vec Ideal S1x1x1x128x512 .f32) y := rfl

/-- The block of entering states. -/
theorem blk5 (t : Fin cfg0.N) (n : Fin 128) (l : Fin 512) : (iblk m c 5 t : Vec Ideal S1x1x1x128x512 .f32) (ix5 0 0 0 n l)
    = (V m c main_v9 : FVec Ideal S2x8x16x128x512 .f32) (ix5 (td t) (tg t) (tc t) n l) :=
  (iblk5 m c t _).trans (read5 _ t _)

/-- The block of cotangents. -/
theorem blk6 (t : Fin cfg0.N) (i : Fin 128) (l : Fin 512) : (iblk m c 6 t : Vec Ideal S128x512 .f32) (ix2 i l)
    = (m ((c : Thread nD τ).loc main_arg4) : FVec Ideal S2048x4096 .f32)
        (ix2 (pos (tc t) i) ⟨512 * (tg t).val + l.val, by omega⟩) := by
  blk_point [iblk, V, idx t, pos]

end Cert.KernelIdeal.Ssd

end
-- ==== Proof.ScanPlace.lean ====
module

public import proofs.«01_k».proof.Proof.ScanBlk

/-! What the scan's call stores in its third array at a place of its grid, for arguments that are reals. -/

@[expose] public section

set_option maxRecDepth 16384
set_option maxHeartbeats 200000

noncomputable section

namespace Cert.KernelIdeal.Ssd

open Idealize.ShloMosaic Idealize.ShloMosaic.TcCoe Idealize.SL.Sem
open Cert.KernelIdeal Cert.KernelIdeal.Gen Cert.Ssd

variable (m : (ℓ : Loc nD τ sig) → Buf (Elt Ideal) ℓ) (c : Dev nD)

/-- The kernel's arguments are the reals `A`. -/
structure Has (A : Args) : Prop where
  xb : ∀ n j, (m ((c : Thread nD τ).loc main_arg0) : FVec Ideal S2048x6144 .f32) (ix2 n j) = ((A.xb n j : ℝ) : EReal)
  dt : ∀ n j, (m ((c : Thread nD τ).loc main_arg1) : FVec Ideal S2048x128 .f32) (ix2 n j) = ((A.dt n j : ℝ) : EReal)
  al : ∀ d h, (m ((c : Thread nD τ).loc main_arg2) : FVec Ideal S2x64 .f32) (ix2 d h) = ((A.al d h : ℝ) : EReal)
  hi : ∀ d k g h p n, (m ((c : Thread nD τ).loc main_arg3) : FVec Ideal S2x16x8x8x64x128 .f32) (ix6 d k g h p n)
    = ((A.h d k g h p n : ℝ) : EReal)
  dy : ∀ n j, (m ((c : Thread nD τ).loc main_arg4) : FVec Ideal S2048x4096 .f32) (ix2 n j) = ((A.dy n j : ℝ) : EReal)

/-- The blocks a place is given hold its chunk and the state that enters it. -/
theorem ok {A : Args} (hA : Has m c A) (t : Fin cfg0.N) :
    Ok m c t (A.pb (td t) (tg t) (tc t)) (A.Hk (td t) (tg t) (lc (td t) (tc t))) where
  m11 := mask t
  x i l := (blk0 m c t i l).trans (hA.xb _ _)
  b i n := (blk1 m c t i n).trans (hA.xb _ _)
  cm i n := (blk2 m c t i n).trans (hA.xb _ _)
  dt i h := by
    rw [blk3, entry_dt]
    refine (hA.dt _ _).trans ?_
    refine congrArg (fun q : Fin 128 => ((A.dt (pos (tc t) i) q : ℝ) : EReal)) (Fin.ext ?_)
    show (td t).val * 64 + (tg t).val * 8 + h.val = 64 * (td t).val + 8 * (tg t).val + h.val
    omega
  al h := by
    rw [blk4, entry_al]
    refine (congrArg (fun q : EReal => 0 - Ideal.exp q) (hA.al _ _)).trans ?_
    show (0 : EReal) - Ideal.exp ((A.al (td t) (gh (tg t) h) : ℝ) : EReal) = ((-Real.exp (A.al (td t) (gh (tg t) h)) : ℝ) : EReal)
    rw [Ideal.exp_coe, ← EReal.coe_zero, ← EReal.coe_sub, zero_sub]
  h n l := by
    rw [blk5, entry_h]
    exact hA.hi _ _ _ _ _ _
  dy i l := (blk6 m c t i l).trans (hA.dy _ _)

/-- What the array of results holds. -/
def grad (A : Args) : FVec Ideal S2x2048x1024 .f32 := fun y => ((A.odC (y 0) (y 1) (y 2) : ℝ) : EReal)

/-- What is stored at a place is the block of the gradient there. -/
theorem point {A : Args} (hA : Has m c A) (t : Fin cfg0.N) (i n : Fin 128) :
    (outsAt0 m c t.val t.isLt).2.2.1 (ix3 0 i n) = grad A (ix3 (td t) (pos (tc t) i) ⟨128 * (tg t).val + n.val, by omega⟩) := by
  refine (dc m c t (ok m c hA t) i n).trans ?_
  have e1 : (⟨(128 * (tg t).val + n.val) / 128, by omega⟩ : Fin 8) = tg t := Fin.ext (by show (128 * (tg t).val + n.val) / 128 = (tg t).val; omega)
  have e2 : (⟨(128 * (tg t).val + n.val) % 128, by omega⟩ : Fin 128) = n := Fin.ext (by show (128 * (tg t).val + n.val) % 128 = n.val; omega)
  show _ = ((Base.dC (A.pb (td t) ⟨(128 * (tg t).val + n.val) / 128, by omega⟩ (chk (pos (tc t) i)))
    (A.Hk (td t) ⟨(128 * (tg t).val + n.val) / 128, by omega⟩ (lc (td t) (chk (pos (tc t) i))))
    (row (pos (tc t) i)) ⟨(128 * (tg t).val + n.val) % 128, by omega⟩ : ℝ) : EReal)
  rw [e1, e2, chk_pos, row_pos]

end Cert.KernelIdeal.Ssd

end
-- ==== Proof.ScanOut.lean ====
module

public import proofs.«01_k».proof.Proof.ScanPlace

/-! What the scan's call leaves in its third array: the gradient of the output projection, for arguments that are reals. -/

@[expose] public section

set_option maxRecDepth 16384
set_option maxHeartbeats 200000

noncomputable section

namespace Cert.KernelIdeal.Ssd

open Idealize.ShloMosaic Idealize.ShloMosaic.TcCoe Idealize.SL.Sem
open Cert.KernelIdeal Cert.KernelIdeal.Gen Cert.Ssd

variable (m : (ℓ : Loc nD τ sig) → Buf (Elt Ideal) ℓ) (c : Dev nD)

/-- Where a stored entry lies in the array of results. -/
theorem emb (t : Fin cfg0.N) (y : S1x128x128.Idx) : ((win0_10.blk t).view.emb y : S2x2048x1024.Idx)
    = ix3 (td t) (pos (tc t) (y 1)) ⟨128 * (tg t).val + (y 2).val, by have h : (y 2).val < 128 := (y 2).isLt; omega⟩ := by
  blk_ext [idx t, pos]

/-- After the run the third array holds the gradient of the output projection. -/
theorem final {A : Args} (hA : Has m c A) : (dats m 0 c).arrAt 10 (cfgs 0).N = grad A := by
  refine (dats m 0 c).arrAt_eq_of_covers 10 _ (by decide +kernel) fun t hf y => ?_
  blk_simp
  rw [after0_10]
  have h0 : (y 0).val < 1 := (y 0).isLt
  have hy : (y : S1x128x128.Idx) = ix3 0 (y 1) (y 2) := by
    rw [eq_ix3 (y : S1x128x128.Idx)]
    exact congrArg (fun q : Fin 1 => (ix3 q (y 1) (y 2) : S1x128x128.Idx)) (Fin.ext (by show (y 0).val = 0; omega))
  refine (congrArg (outsAt0 m c t.val t.isLt).2.2.1 hy).trans ?_
  exact (point m c hA t (y 1) (y 2)).trans (congrArg (grad A) (emb t y).symm)

end Cert.KernelIdeal.Ssd

end
-- ==== Proof.ScanCum.lean ====
module

public import proofs.«01_k».proof.Proof.ScanSpec
public import Idealize.ShloMosaic.Lib.Routing.OpsOne

/-! A running sum over the rows of a chunk, as a window of the whole height padded by one less at its start: entry `i` is the
    sum of the entries up to and including `i`. -/

@[expose] public section

set_option maxRecDepth 16384

noncomputable section

namespace Cert.Ssd

open Idealize.ShloMosaic

/-- The shape of the running sums. -/
abbrev SC : Shape := ⟨5, ![2, 16, 128, 8, 8]⟩
/-- The shape of the window. -/
abbrev SW : Shape := ⟨5, ![1, 1, 128, 1, 1]⟩

theorem numel_SW : SW.numel = 128 := by decide

/-- A place of the window is its row. -/
theorem symm_SW (n : Fin SW.numel) : SW.rowMajor.symm n = ix5 0 0 (n.cast numel_SW) 0 0 := by
  refine (Equiv.symm_apply_eq _).2 (Fin.ext ?_)
  rw [Shape.rowMajor_val_five]
  show n.val = (((0 * 1 + 0) * 128 + n.val) * 1 + 0) * 1 + 0
  omega

/-- A fold that adds a term at a time is the sum of the terms. -/
theorem foldl_add {ι : Type} (F : EReal → ι → EReal) (f : ι → EReal) (hF : ∀ r n, F r n = r + f n) (l : List ι) (v : EReal) :
    l.foldl F v = v + (l.map f).sum := by
  induction l generalizing v with
  | nil => simp
  | cons a l ih => rw [List.foldl_cons, ih, hF, List.map_cons, List.sum_cons, add_assoc]

/-- The terms of the window that ends at row `i` are the rows up to `i`. -/
theorem window (f : Fin 128 → ℝ) (i : Fin 128) :
    (∑ n : Fin 128, if 127 ≤ i.val + n.val then f (Fin.ofNat 128 (i.val + n.val - 127)) else 0)
      = ∑ j : Fin 128, (if j ≤ i then (1 : ℝ) else 0) * f j := by
  simp only [ite_mul, one_mul, zero_mul]
  rw [← Finset.sum_filter, ← Finset.sum_filter]
  refine Finset.sum_nbij' (fun n => Fin.ofNat 128 (i.val + n.val - 127)) (fun j => Fin.ofNat 128 (j.val + 127 - i.val))
    (fun n hn => ?_) (fun j hj => ?_) (fun n hn => ?_) (fun j hj => ?_) (fun n _ => rfl)
  · simp only [Finset.mem_filter, Finset.mem_univ, true_and] at hn ⊢
    rw [Fin.le_def]; simp only [Fin.val_ofNat]; omega
  · simp only [Finset.mem_filter, Finset.mem_univ, true_and] at hj ⊢
    rw [Fin.le_def] at hj; simp only [Fin.val_ofNat]; omega
  · simp only [Finset.mem_filter, Finset.mem_univ, true_and] at hn
    apply Fin.ext; simp only [Fin.val_ofNat]; omega
  · simp only [Finset.mem_filter, Finset.mem_univ, true_and] at hj
    rw [Fin.le_def] at hj
    apply Fin.ext; simp only [Fin.val_ofNat]; omega

/-- The running sum of reals. -/
theorem cumsum (x : SC.Idx → EReal) (f : Fin 2 → Fin 16 → Fin 128 → Fin 8 → Fin 8 → ℝ)
    (hx : ∀ d k i g h, x (ix5 d k i g h) = ((f d k i g h : ℝ) : EReal))
    (hw : SC.ReduceWindows (![1, 1, 128, 1, 1] : Fin 5 → Nat) ![1, 1, 1, 1, 1] ![0, 0, 127, 0, 0] ![0, 0, 0, 0, 0] SC)
    (d : Fin 2) (k : Fin 16) (i : Fin 128) (g h : Fin 8) :
    Ideal.hostReduceWindowAdd (s := SC) ![1, 1, 128, 1, 1] ![1, 1, 1, 1, 1] ![0, 0, 127, 0, 0] ![0, 0, 0, 0, 0] hw x 0 (ix5 d k i g h)
      = ((∑ j : Fin 128, (if j ≤ i then (1 : ℝ) else 0) * f d k j g h : ℝ) : EReal) := by
  unfold Ideal.hostReduceWindowAdd Host.reduceWindow
  refine (foldl_add _ (fun n : Fin SW.numel => (((if 127 ≤ i.val + n.val then f d k (Fin.ofNat 128 (i.val + n.val - 127)) g h else 0 : ℝ)) : EReal))
    (fun r n => ?_) _ _).trans ?_
  · have hn : n.val < 128 := (n.cast numel_SW).isLt
    dsimp only
    refine congrArg (fun q : EReal => r + q) ?_
    have w0 : (SW.rowMajor.symm n 0).val = 0 := by rw [symm_SW]; rfl
    have w1 : (SW.rowMajor.symm n 1).val = 0 := by rw [symm_SW]; rfl
    have w2 : (SW.rowMajor.symm n 2).val = n.val := by rw [symm_SW]; rfl
    have w3 : (SW.rowMajor.symm n 3).val = 0 := by rw [symm_SW]; rfl
    have w4 : (SW.rowMajor.symm n 4).val = 0 := by rw [symm_SW]; rfl
    split
    · next hin =>
      have h0 := hin 2
      change 127 ≤ i.val * 1 + (SW.rowMajor.symm n 2).val ∧ i.val * 1 + (SW.rowMajor.symm n 2).val - 127 < 128 at h0
      rw [w2] at h0
      rw [if_pos (by omega)]
      refine (congrArg x (funext fun a => Fin.ext ?_)).trans (hx d k (Fin.ofNat 128 (i.val + n.val - 127)) g h)
      match a with
      | ⟨0, _⟩ => show d.val * 1 + (SW.rowMajor.symm n 0).val - 0 = d.val; rw [w0]; omega
      | ⟨1, _⟩ => show k.val * 1 + (SW.rowMajor.symm n 1).val - 0 = k.val; rw [w1]; omega
      | ⟨2, _⟩ => show i.val * 1 + (SW.rowMajor.symm n 2).val - 127 = (i.val + n.val - 127) % 128; rw [w2]; omega
      | ⟨3, _⟩ => show g.val * 1 + (SW.rowMajor.symm n 3).val - 0 = g.val; rw [w3]; omega
      | ⟨4, _⟩ => show h.val * 1 + (SW.rowMajor.symm n 4).val - 0 = h.val; rw [w4]; omega
    · next hin =>
      rw [if_neg fun hle => hin fun a => by
        match a with
        | ⟨0, _⟩ => show 0 ≤ d.val * 1 + (SW.rowMajor.symm n 0).val ∧ d.val * 1 + (SW.rowMajor.symm n 0).val - 0 < 2; rw [w0]; omega
        | ⟨1, _⟩ => show 0 ≤ k.val * 1 + (SW.rowMajor.symm n 1).val ∧ k.val * 1 + (SW.rowMajor.symm n 1).val - 0 < 16; rw [w1]; omega
        | ⟨2, _⟩ => show 127 ≤ i.val * 1 + (SW.rowMajor.symm n 2).val ∧ i.val * 1 + (SW.rowMajor.symm n 2).val - 127 < 128; rw [w2]; omega
        | ⟨3, _⟩ => show 0 ≤ g.val * 1 + (SW.rowMajor.symm n 3).val ∧ g.val * 1 + (SW.rowMajor.symm n 3).val - 0 < 8; rw [w3]; omega
        | ⟨4, _⟩ => show 0 ≤ h.val * 1 + (SW.rowMajor.symm n 4).val ∧ h.val * 1 + (SW.rowMajor.symm n 4).val - 0 < 8; rw [w4]; omega]
      rfl
  · rw [← window]
    refine (zero_add _).trans ?_
    refine (Fin.sum_univ_def _).symm.trans ?_
    rw [← coe_sum]
    exact coe_eq ((finCongr numel_SW).sum_comp fun n : Fin 128 =>
      if 127 ≤ i.val + n.val then f d k (Fin.ofNat 128 (i.val + n.val - 127)) g h else 0)

end Cert.Ssd

end
-- ==== Proof.ScanRef.lean ====
module

public import proofs.«01_k».proof.Proof.Gen.ReferenceIdeal
public import proofs.«01_k».proof.Proof.ScanCum
public import Idealize.ShloMosaic.Lib.Pointwise

/-! The steps of the scan's reference, one array at a time. -/

@[expose] public section

set_option maxRecDepth 16384

noncomputable section

namespace Cert.ReferenceIdeal.Ssd

open Idealize.ShloMosaic Cert.ReferenceIdeal

variable [Facts]
open Facts₀ Facts

/-- An array and the same with its rows reversed, one for each direction. -/
def two64 (a : FVec Ideal S2048x64x64 .f32) : FVec Ideal S2x2048x64x64 .f32 :=
  concatenate S2x2048x64x64 0
    [⟨S1x2048x64x64, broadcastInDim S1x2048x64x64 ![1, 2, 3] bcast_S2048x64x64_S1x2048x64x64_1_2_3 a⟩,
     ⟨S1x2048x64x64, broadcastInDim S1x2048x64x64 ![1, 2, 3] bcast_S2048x64x64_S1x2048x64x64_1_2_3 (Host.reverse [0] a)⟩]
    concatenates_S1x2048x64x64_S1x2048x64x64_S2x2048x64x64_d0

/-- The same of an array of projections. -/
def two8 (a b : FVec Ideal S2048x8x128 .f32) : FVec Ideal S2x2048x8x128 .f32 :=
  concatenate S2x2048x8x128 0
    [⟨S1x2048x8x128, broadcastInDim S1x2048x8x128 ![1, 2, 3] bcast_S2048x8x128_S1x2048x8x128_1_2_3 a⟩,
     ⟨S1x2048x8x128, broadcastInDim S1x2048x8x128 ![1, 2, 3] bcast_S2048x8x128_S1x2048x8x128_1_2_3 (Host.reverse [0] b)⟩]
    concatenates_S1x2048x8x128_S1x2048x8x128_S2x2048x8x128_d0

/-- The inputs by heads. -/
def heads (x : FVec Ideal S2048x6144 .f32) : FVec Ideal S2048x64x64 .f32 :=
  fun i => shapeCast S2048x64x64 (extractStridedSlice S2048x4096 ![0, 0] x slices_S2048x6144_S2048x4096_0_0)
    shapeCasts_S2048x4096_S2048x64x64 i

/-- The input projections by groups. -/
def proj (x : FVec Ideal S2048x6144 .f32) : FVec Ideal S2048x8x128 .f32 :=
  fun i => shapeCast S2048x8x128 (extractStridedSlice S2048x1024 ![0, 4096] x slices_S2048x6144_S2048x1024_0_4096)
    shapeCasts_S2048x1024_S2048x8x128 i

/-- The time steps by directions. -/
def dirs (t : FVec Ideal S2048x128 .f32) : FVec Ideal S2048x2x64 .f32 :=
  fun i => shapeCast S2048x2x64 t shapeCasts_S2048x128_S2048x2x64 i

/-- The time steps, each direction in its own order of rows. -/
def steps (t : FVec Ideal S2048x128 .f32) : FVec Ideal S2x2048x64 .f32 :=
  concatenate S2x2048x64 0
    [⟨S1x2048x64, broadcastInDim S1x2048x64 ![1, 2] bcast_S2048x64_S1x2048x64_1_2
        fun i => shapeCast S2048x64 (extractStridedSlice S2048x1x64 ![0, 0, 0] (dirs t) slices_S2048x2x64_S2048x1x64_0_0_0)
          shapeCasts_S2048x1x64_S2048x64 i⟩,
     ⟨S1x2048x64, broadcastInDim S1x2048x64 ![1, 2] bcast_S2048x64_S1x2048x64_1_2
        (Host.reverse [0] fun i => shapeCast S2048x64 (extractStridedSlice S2048x1x64 ![0, 1, 0] (dirs t)
          slices_S2048x2x64_S2048x1x64_0_1_0) shapeCasts_S2048x1x64_S2048x64 i)⟩]
    concatenates_S1x2048x64_S1x2048x64_S2x2048x64_d0

/-- The decay parameters, negative. -/
def rates (a : FVec Ideal S2x64 .f32) : FVec Ideal S2x1x64 .f32 :=
  Host.negf (broadcastInDim S2x1x64 ![0, 2] bcast_S2x64_S2x1x64_0_2 (Host.exp a))

/-- The inputs scaled by the time steps, in chunks. -/
def scaled (x : FVec Ideal S2048x6144 .f32) (t : FVec Ideal S2048x128 .f32) : FVec Ideal S2x16x128x8x8x64 .f32 :=
  fun i => shapeCast S2x16x128x8x8x64 (mulf (two64 (heads x))
    (broadcastInDim S2x2048x64x64 ![0, 1, 2, 3] bcast_S2x2048x64x1_S2x2048x64x64_0_1_2_3
      (broadcastInDim S2x2048x64x1 ![0, 1, 2] bcast_S2x2048x64_S2x2048x64x1_0_1_2 (steps t))))
    shapeCasts_S2x2048x64x64_S2x16x128x8x8x64 i

/-- The input projections in chunks. -/
def inp (x : FVec Ideal S2048x6144 .f32) : FVec Ideal S2x16x128x8x128 .f32 :=
  fun i => shapeCast S2x16x128x8x128 (two8 (proj x) (proj x)) shapeCasts_S2x2048x8x128_S2x16x128x8x128 i

/-- The decay exponents in chunks. -/
def logs (t : FVec Ideal S2048x128 .f32) (a : FVec Ideal S2x64 .f32) : FVec Ideal S2x16x128x8x8 .f32 :=
  fun i => shapeCast S2x16x128x8x8 (mulf (steps t) (broadcastInDim S2x2048x64 ![0, 1, 2] bcast_S2x1x64_S2x2048x64_0_1_2 (rates a)))
    shapeCasts_S2x2048x64_S2x16x128x8x8 i

/-- The decay exponents summed along a chunk. -/
def cum (t : FVec Ideal S2048x128 .f32) (a : FVec Ideal S2x64 .f32) : FVec Ideal S2x16x128x8x8 .f32 :=
  Host.reduceWindowAdd ![1, 1, 128, 1, 1] ![1, 1, 1, 1, 1] ![0, 0, 127, 0, 0] ![0, 0, 0, 0, 0] (logs t a)
    (broadcastInDim S_ ![] bcast_S_S_ (constant S_ .f32 0x00000000#32))
    reduceWindows_S2x16x128x8x8_S2x16x128x8x8_w1s1p0_0_w1s1p0_0_w128s1p127_0_w1s1p0_0_w1s1p0_0 h_S_

/-- The rows that do not come after a row. -/
def tri : IVec S128x128x1x1 1 :=
  broadcastInDim S128x128x1x1 ![0, 1] bcast_S128x128_S128x128x1x1_0_1
    (select (cmpi .sge (addi (iotaInDim S128x128 32 0) (broadcastInDim S128x128 ![] bcast_S_S128x128 (constantI S_ 32 0#32)))
        (iotaInDim S128x128 32 1))
      (broadcastInDim S128x128 ![] bcast_S_S128x128 (constantI S_ 1 1#1))
      (broadcastInDim S128x128 ![] bcast_S_S128x128 (constantI S_ 1 0#1)))

/-- The decay from a row to a later row, zero to an earlier one. -/
def decay (w : FVec Ideal S2x16x128x8x8 .f32) : FVec Ideal S2x16x128x128x8x8 .f32 :=
  Host.exp (select
    (broadcastInDim S2x16x128x128x8x8 ![2, 3, 4, 5] bcast_S128x128x1x1_S2x16x128x128x8x8_2_3_4_5 tri)
    (subf
      (broadcastInDim S2x16x128x128x8x8 ![0, 1, 2, 3, 4, 5] bcast_S2x16x128x1x8x8_S2x16x128x128x8x8_0_1_2_3_4_5
        (broadcastInDim S2x16x128x1x8x8 ![0, 1, 2, 4, 5] bcast_S2x16x128x8x8_S2x16x128x1x8x8_0_1_2_4_5 w))
      (broadcastInDim S2x16x128x128x8x8 ![0, 1, 2, 3, 4, 5] bcast_S2x16x1x128x8x8_S2x16x128x128x8x8_0_1_2_3_4_5
        (broadcastInDim S2x16x1x128x8x8 ![0, 1, 3, 4, 5] bcast_S2x16x128x8x8_S2x16x1x128x8x8_0_1_3_4_5 w)))
    (broadcastInDim S2x16x128x128x8x8 ![] bcast_S_S2x16x128x128x8x8 (id (constant S_ .f32 0xFF800000#32))))

/-- The cotangents in chunks. -/
def cot (y : FVec Ideal S2048x4096 .f32) : FVec Ideal S2x16x128x8x8x64 .f32 :=
  fun i => shapeCast S2x16x128x8x8x64 (two64 fun i => shapeCast S2048x64x64 y shapeCasts_S2048x4096_S2048x64x64 i)
    shapeCasts_S2x2048x64x64_S2x16x128x8x8x64 i

/-- The part of the gradient that comes from the entering states. -/
def carried (w : FVec Ideal S2x16x128x8x8 .f32) (y : FVec Ideal S2x16x128x8x8x64 .f32) (h : FVec Ideal S2x16x8x8x64x128 .f32) :
    FVec Ideal S2x16x128x8x128 .f32 :=
  transpose S2x16x128x8x128 [0, 1, 3, 2, 4]
    (Host.dotGeneral dot_S2x16x8x8x64x128_S2x16x8x8x64x128_S2x16x8x128x128_34_34_5_5_012_012 none
      (transpose S2x16x8x8x64x128 [0, 1, 3, 4, 5, 2]
        (mulf (broadcastInDim S2x16x128x8x8x64 ![0, 1, 2, 3, 4, 5] bcast_S2x16x128x8x8x1_S2x16x128x8x8x64_0_1_2_3_4_5
            (broadcastInDim S2x16x128x8x8x1 ![0, 1, 2, 3, 4] bcast_S2x16x128x8x8_S2x16x128x8x8x1_0_1_2_3_4 (Host.exp w))) y)
        transposes_S2x16x128x8x8x64_S2x16x8x8x64x128_0_1_3_4_5_2) h)
    transposes_S2x16x8x128x128_S2x16x128x8x128_0_1_3_2_4

/-- The gradient of the decayed scores of each head, decayed. -/
def scores (y s : FVec Ideal S2x16x128x8x8x64 .f32) (e : FVec Ideal S2x16x128x128x8x8 .f32) : FVec Ideal S2x16x128x128x8x8 .f32 :=
  mulf (transpose S2x16x128x128x8x8 [0, 1, 4, 5, 2, 3]
    (Host.dotGeneral dot_S2x16x8x8x64x128_S2x16x128x8x8x64_S2x16x8x8x128x128_4_5_5_2_0123_0134 none
      (transpose S2x16x8x8x64x128 [0, 1, 3, 4, 5, 2] y transposes_S2x16x128x8x8x64_S2x16x8x8x64x128_0_1_3_4_5_2) s)
    transposes_S2x16x8x8x128x128_S2x16x128x128x8x8_0_1_4_5_2_3) e

/-- Its sum over the heads of a group. -/
def summed (z : FVec Ideal S2x16x128x128x8x8 .f32) : FVec Ideal S2x16x128x128x8 .f32 :=
  Host.reduceAdd (fun i => shapeCast S2x16x128x128x8x1
      (Host.reduceAdd z (constant S_ .f32 0x00000000#32) reducesTo_S2x16x128x128x8x8_S2x16x128x128x8_d5 h_S_)
      shapeCasts_S2x16x128x128x8_S2x16x128x128x8x1 i)
    (constant S_ .f32 0x00000000#32) reducesTo_S2x16x128x128x8x1_S2x16x128x128x8_d5 h_S_

/-- The part of the gradient that comes from the chunk itself. -/
def within (z : FVec Ideal S2x16x128x128x8 .f32) (b : FVec Ideal S2x16x128x8x128 .f32) : FVec Ideal S2x16x128x8x128 .f32 :=
  transpose S2x16x128x8x128 [0, 1, 3, 2, 4]
    (Host.dotGeneral dot_S2x16x8x128x128_S2x16x128x8x128_S2x16x8x128x128_4_2_3_4_012_013 none
      (transpose S2x16x8x128x128 [0, 1, 4, 2, 3] z transposes_S2x16x128x128x8_S2x16x8x128x128_0_1_4_2_3) b)
    transposes_S2x16x8x128x128_S2x16x128x8x128_0_1_3_2_4

/-- The chunks laid end to end, by directions. -/
def rows (v : FVec Ideal S2x16x128x8x128 .f32) : FVec Ideal S2x2048x8x128 .f32 :=
  fun i => shapeCast S2x2048x8x128 v shapeCasts_S2x16x128x8x128_S2x2048x8x128 i

/-- The rows of the second direction turned round again. -/
def back (v : FVec Ideal S2x16x128x8x128 .f32) : FVec Ideal S2x2048x1024 .f32 :=
  fun i => shapeCast S2x2048x1024
    (two8
      (fun i => shapeCast S2048x8x128 (extractStridedSlice S1x2048x8x128 ![0, 0, 0, 0] (rows v) slices_S2x2048x8x128_S1x2048x8x128_0_0_0_0)
        shapeCasts_S1x2048x8x128_S2048x8x128 i)
      (fun i => shapeCast S2048x8x128 (extractStridedSlice S1x2048x8x128 ![1, 0, 0, 0] (rows v) slices_S2x2048x8x128_S1x2048x8x128_1_0_0_0)
        shapeCasts_S1x2048x8x128_S2048x8x128 i))
    shapeCasts_S2x2048x8x128_S2x2048x1024 i

/-- The reference's result. -/
def result (x : FVec Ideal S2048x6144 .f32) (t : FVec Ideal S2048x128 .f32) (a : FVec Ideal S2x64 .f32)
    (h : FVec Ideal S2x16x8x8x64x128 .f32) (y : FVec Ideal S2048x4096 .f32) : FVec Ideal S2x2048x1024 .f32 :=
  back (addf (carried (cum t a) (cot y) h) (within (summed (scores (cot y) (scaled x t) (decay (cum t a)))) (inp x)))

end Cert.ReferenceIdeal.Ssd

end
-- ==== Proof.ScanRefA.lean ====
module

public import proofs.«01_k».proof.Proof.ScanRef
public import proofs.«01_k».proof.Proof.ScanData

/-! The arrays of the scan's reference that come before its products, entry by entry, for arguments that are reals. -/

@[expose] public section

set_option maxRecDepth 16384

noncomputable section

namespace Cert.ReferenceIdeal.Ssd

open Idealize.ShloMosaic Cert.ReferenceIdeal Cert.Ssd

variable [Facts]
open Facts₀ Facts

theorem rev_eq (n : Fin 2048) : n.rev = (⟨2047 - n.val, by omega⟩ : Fin 2048) := Fin.ext (by simp only [Fin.val_rev]; omega)

/-- Each direction reads the rows in its own order. -/
theorem two64_at (a : FVec Ideal S2048x64x64 .f32) (d : Fin 2) (n : Fin 2048) (h p : Fin 64) :
    two64 a (ix4 d n h p) = a (ix3 (lr d n) h p) := by
  fin_cases d
  · pointwise [two64, lr]
  · pointwise [two64, lr]
    exact congrArg (fun q : Fin 2048 => a (ix3 q h p)) (rev_eq n)

theorem two8_at (a b : FVec Ideal S2048x8x128 .f32) (d : Fin 2) (n : Fin 2048) (g : Fin 8) (k : Fin 128) :
    two8 a b (ix4 d n g k) = if d = 0 then a (ix3 n g k) else b (ix3 (lr d n) g k) := by
  fin_cases d
  · pointwise [two8, lr]
  · pointwise [two8, lr]
    exact congrArg (fun q : Fin 2048 => b (ix3 q g k)) (rev_eq n)

theorem heads_at (x : FVec Ideal S2048x6144 .f32) (n : Fin 2048) (h p : Fin 64) :
    heads x (ix3 n h p) = x (ix2 n ⟨64 * h.val + p.val, by omega⟩) := by
  pointwise [heads]
  exact congrArg (fun q : Fin 6144 => x (ix2 n q)) (Fin.ext (by show h.val * 64 + p.val = 64 * h.val + p.val; omega))

theorem proj_at (x : FVec Ideal S2048x6144 .f32) (n : Fin 2048) (g : Fin 8) (k : Fin 128) :
    proj x (ix3 n g k) = x (ix2 n ⟨4096 + 128 * g.val + k.val, by omega⟩) := by
  pointwise [proj]
  exact congrArg (fun q : Fin 6144 => x (ix2 n q)) (Fin.ext (by show 4096 + (g.val * 128 + k.val) = 4096 + 128 * g.val + k.val; omega))

theorem dirs_at (t : FVec Ideal S2048x128 .f32) (n : Fin 2048) (d : Fin 2) (h : Fin 64) :
    dirs t (ix3 n d h) = t (ix2 n ⟨64 * d.val + h.val, by omega⟩) := by
  pointwise [dirs]
  exact congrArg (fun q : Fin 128 => t (ix2 n q)) (Fin.ext (by show d.val * 64 + h.val = 64 * d.val + h.val; omega))

theorem steps_at (t : FVec Ideal S2048x128 .f32) (d : Fin 2) (n : Fin 2048) (h : Fin 64) :
    steps t (ix3 d n h) = t (ix2 (lr d n) ⟨64 * d.val + h.val, by omega⟩) := by
  fin_cases d
  · pointwise [steps, lr]
    exact (dirs_at t n 0 h).trans (congrArg (fun q : Fin 128 => t (ix2 n q)) (Fin.ext (by show 64 * 0 + h.val = h.val; omega)))
  · pointwise [steps, lr]
    exact (dirs_at t n.rev 1 h).trans (congrArg (fun q : Fin 2048 => t (ix2 q ⟨64 + h.val, by omega⟩)) (rev_eq n))

theorem scaled_at (x : FVec Ideal S2048x6144 .f32) (t : FVec Ideal S2048x128 .f32) (d : Fin 2) (k : Fin 16) (i : Fin 128) (g h : Fin 8) (p : Fin 64) :
    scaled x t (ix6 d k i g h p) = two64 (heads x) (ix4 d (pos k i) (gh g h) p) * steps t (ix3 d (pos k i) (gh g h)) := by
  pointwise [scaled]
  rfl

theorem inp_at (x : FVec Ideal S2048x6144 .f32) (d : Fin 2) (k : Fin 16) (i : Fin 128) (g : Fin 8) (n : Fin 128) :
    inp x (ix5 d k i g n) = two8 (proj x) (proj x) (ix4 d (pos k i) g n) := by
  pointwise [inp]
  rfl

theorem logs_at (t : FVec Ideal S2048x128 .f32) (a : FVec Ideal S2x64 .f32) (d : Fin 2) (k : Fin 16) (i : Fin 128) (g h : Fin 8) :
    logs t a (ix5 d k i g h) = steps t (ix3 d (pos k i) (gh g h)) * -(Ideal.exp (a (ix2 d (gh g h)))) := by
  pointwise [logs, rates]
  rfl

theorem lower : ∀ i j : Fin 128, Scalar.select (IntOp.cmpi CmpIPredicate.sge (IntOp.addi (BitVec.ofNat 32 i.val) 0#32) (BitVec.ofNat 32 j.val)) 1#1 0#1
    = BitVec.ofBool (decide (j ≤ i)) := by decide +kernel

theorem neg_inf : Ideal.ofBits .f32 0xFF800000#32 = ⊥ := by simp [Ideal.ofBits, Ideal.ieee]

theorem tri_at (i j : Fin 128) : tri (ix4 i j 0 0) = BitVec.ofBool (decide (j ≤ i)) := by
  pointwise [tri]
  exact lower i j

theorem decay_at (w : FVec Ideal S2x16x128x8x8 .f32) (d : Fin 2) (k : Fin 16) (i j : Fin 128) (g h : Fin 8) :
    decay w (ix6 d k i j g h) = Ideal.exp (if decide (j ≤ i) then w (ix5 d k i g h) - w (ix5 d k j g h) else ⊥) := by
  pointwise [decay]
  rw [tri_at, sel]
  exact congrArg (fun q : EReal => Ideal.exp (if decide (j ≤ i) = true then w (ix5 d k i g h) - w (ix5 d k j g h) else q)) neg_inf

theorem cot_at (y : FVec Ideal S2048x4096 .f32) (d : Fin 2) (k : Fin 16) (i : Fin 128) (g h : Fin 8) (p : Fin 64) :
    cot y (ix6 d k i g h p) = y (ix2 (lr d (pos k i)) ⟨512 * g.val + (ln h p).val, by omega⟩) := by
  pointwise [cot]
  refine (two64_at _ d (pos k i) (gh g h) p).trans ?_
  exact congrArg (fun q : Fin 4096 => y (ix2 (lr d (pos k i)) q)) (Fin.ext (by show (g.val * 8 + h.val) * 64 + p.val = 512 * g.val + (h.val * 64 + p.val); omega))

end Cert.ReferenceIdeal.Ssd

end
-- ==== Proof.ScanRefB.lean ====
module

public import proofs.«01_k».proof.Proof.ScanRefA

/-! The products of the scan's reference, entry by entry. -/

@[expose] public section

set_option maxRecDepth 16384

noncomputable section

namespace Cert.ReferenceIdeal.Ssd

open Idealize.ShloMosaic Cert.ReferenceIdeal Cert.Ssd

variable [Facts]
open Facts₀ Facts

theorem carried_at (w : FVec Ideal S2x16x128x8x8 .f32) (y : FVec Ideal S2x16x128x8x8x64 .f32) (h : FVec Ideal S2x16x8x8x64x128 .f32)
    (d : Fin 2) (k : Fin 16) (i : Fin 128) (g : Fin 8) (n : Fin 128) :
    carried w y h (ix5 d k i g n) = ∑ e : Fin 8, ∑ p : Fin 64, Ideal.exp (w (ix5 d k i g e)) * y (ix6 d k i g e p) * h (ix6 d k g e p n) := by
  pointwise [carried]

theorem scores_at (y s : FVec Ideal S2x16x128x8x8x64 .f32) (z : FVec Ideal S2x16x128x128x8x8 .f32)
    (d : Fin 2) (k : Fin 16) (i j : Fin 128) (g e : Fin 8) :
    scores y s z (ix6 d k i j g e) = (∑ p : Fin 64, y (ix6 d k i g e p) * s (ix6 d k j g e p)) * z (ix6 d k i j g e) := by
  pointwise [scores]

theorem within_at (z : FVec Ideal S2x16x128x128x8 .f32) (b : FVec Ideal S2x16x128x8x128 .f32)
    (d : Fin 2) (k : Fin 16) (i : Fin 128) (g : Fin 8) (n : Fin 128) :
    within z b (ix5 d k i g n) = ∑ j : Fin 128, z (ix5 d k i j g) * b (ix5 d k j g n) := by
  pointwise [within]

theorem rows_at (v : FVec Ideal S2x16x128x8x128 .f32) (d : Fin 2) (n : Fin 2048) (g : Fin 8) (k : Fin 128) :
    rows v (ix4 d n g k) = v (ix5 d (chk n) (row n) g k) := by
  pointwise [rows]
  rfl

/-- A row of the result is the row of the direction's own order that lies there. -/
theorem back_at (v : FVec Ideal S2x16x128x8x128 .f32) (d : Fin 2) (n : Fin 2048) (l : Fin 1024) :
    back v (ix3 d n l) = v (ix5 d (chk (lr d n)) (row (lr d n)) ⟨l.val / 128, by omega⟩ ⟨l.val % 128, by omega⟩) := by
  pointwise [back]
  refine (two8_at _ _ d n _ _).trans ?_
  fin_cases d
  · exact rows_at v 0 n _ _
  · exact rows_at v 1 (lr 1 n) _ _

/-- The entries a sum along the last axis runs over. -/
theorem fiber {n0 n1 n2 n3 n4 n5 : Nat} (h : (⟨6, ![n0, n1, n2, n3, n4, n5]⟩ : Shape).ReducesTo [5] ⟨5, ![n0, n1, n2, n3, n4]⟩)
    (i0 : Fin n0) (i1 : Fin n1) (i2 : Fin n2) (i3 : Fin n3) (i4 : Fin n4) (i : (⟨6, ![n0, n1, n2, n3, n4, n5]⟩ : Shape).Idx) :
    h.drop i = ix5 i0 i1 i2 i3 i4 ↔ ∃ k : Fin n5, ix6 i0 i1 i2 i3 i4 k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- A sum along the last axis. -/
theorem sum_last {n0 n1 n2 n3 n4 n5 : Nat} (h : (⟨6, ![n0, n1, n2, n3, n4, n5]⟩ : Shape).ReducesTo [5] ⟨5, ![n0, n1, n2, n3, n4]⟩)
    (z : (⟨6, ![n0, n1, n2, n3, n4, n5]⟩ : Shape).Idx → EReal)
    (i0 : Fin n0) (i1 : Fin n1) (i2 : Fin n2) (i3 : Fin n3) (i4 : Fin n4) :
    Ideal.hostReduceAdd h z 0 (ix5 i0 i1 i2 i3 i4) = ∑ k : Fin n5, z (ix6 i0 i1 i2 i3 i4 k) :=
  (zero_add _).trans (Finset.sum_filter_eq_sum_of_fiber _ (fun k : Fin n5 => ix6 i0 i1 i2 i3 i4 k)
    (fun _ _ e => congrFun e 5) (fiber h i0 i1 i2 i3 i4) z)

theorem summed_at (z : FVec Ideal S2x16x128x128x8x8 .f32) (d : Fin 2) (k : Fin 16) (i j : Fin 128) (g : Fin 8) :
    summed z (ix5 d k i j g) = ∑ e : Fin 8, z (ix6 d k i j g e) := by
  pointwise [summed]
  refine (sum_last reducesTo_S2x16x128x128x8x1_S2x16x128x128x8_d5 _ d k i j g).trans ?_
  rw [Fin.sum_univ_one]
  exact sum_last reducesTo_S2x16x128x128x8x8_S2x16x128x128x8_d5 z d k i j g

end Cert.ReferenceIdeal.Ssd

end
-- ==== Proof.ScanVal.lean ====
module

public import proofs.«01_k».proof.Proof.ScanRefB

/-! The result of the scan's reference for arguments that are reals: the gradient of the output projection. -/

@[expose] public section

set_option maxRecDepth 16384

noncomputable section

namespace Cert.ReferenceIdeal.Ssd

open Idealize.ShloMosaic Cert.ReferenceIdeal Cert.Ssd

variable [Facts]
open Facts₀ Facts

/-- The reference's arguments are the reals `A`. -/
structure Has (x : FVec Ideal S2048x6144 .f32) (t : FVec Ideal S2048x128 .f32) (a : FVec Ideal S2x64 .f32)
    (h : FVec Ideal S2x16x8x8x64x128 .f32) (y : FVec Ideal S2048x4096 .f32) (A : Args) : Prop where
  xb : ∀ n j, x (ix2 n j) = ((A.xb n j : ℝ) : EReal)
  dt : ∀ n j, t (ix2 n j) = ((A.dt n j : ℝ) : EReal)
  al : ∀ d h, a (ix2 d h) = ((A.al d h : ℝ) : EReal)
  hi : ∀ d k g e p n, h (ix6 d k g e p n) = ((A.h d k g e p n : ℝ) : EReal)
  dy : ∀ n j, y (ix2 n j) = ((A.dy n j : ℝ) : EReal)

variable {x : FVec Ideal S2048x6144 .f32} {t : FVec Ideal S2048x128 .f32} {a : FVec Ideal S2x64 .f32}
  {h : FVec Ideal S2x16x8x8x64x128 .f32} {y : FVec Ideal S2048x4096 .f32} {A : Args}

/-- The time steps of a chunk. -/
theorem steps_val (H : Has x t a h y A) (d : Fin 2) (k : Fin 16) (i : Fin 128) (g e : Fin 8) :
    steps t (ix3 d (pos k i) (gh g e)) = (((A.blk d g k).dt i e : ℝ) : EReal) := by
  refine (steps_at t d _ _).trans ((H.dt _ _).trans ?_)
  refine congrArg (fun q : Fin 128 => ((A.dt (lr d (pos k i)) q : ℝ) : EReal)) (Fin.ext ?_)
  show 64 * d.val + (g.val * 8 + e.val) = 64 * d.val + 8 * g.val + e.val
  omega

/-- The scaled inputs of a chunk. -/
theorem scaled_val (H : Has x t a h y A) (d : Fin 2) (k : Fin 16) (i : Fin 128) (g e : Fin 8) (p : Fin 64) :
    scaled x t (ix6 d k i g e p) = (((A.blk d g k).xdt i (ln e p) : ℝ) : EReal) := by
  rw [scaled_at, two64_at, heads_at, H.xb, steps_val H, ← EReal.coe_mul]
  refine coe_eq ?_
  show A.xb _ _ * _ = A.xb _ _ * (A.blk d g k).dt i (hd (ln e p))
  rw [hd_ln]
  refine congrArg (fun q : Fin 6144 => A.xb (lr d (pos k i)) q * (A.blk d g k).dt i e) (Fin.ext ?_)
  show 64 * (g.val * 8 + e.val) + p.val = 512 * g.val + (e.val * 64 + p.val)
  omega

/-- The input projections of a chunk. -/
theorem inp_val (H : Has x t a h y A) (d : Fin 2) (k : Fin 16) (i : Fin 128) (g : Fin 8) (n : Fin 128) :
    inp x (ix5 d k i g n) = (((A.blk d g k).b i n : ℝ) : EReal) := by
  rw [inp_at, two8_at]
  have e : (if d = 0 then proj x (ix3 (pos k i) g n) else proj x (ix3 (lr d (pos k i)) g n)) = proj x (ix3 (lr d (pos k i)) g n) := by
    split
    · next hd => rw [hd]; rfl
    · rfl
  refine e.trans ((proj_at x _ g n).trans (H.xb _ _))

/-- The cotangents of a chunk. -/
theorem cot_val (H : Has x t a h y A) (d : Fin 2) (k : Fin 16) (i : Fin 128) (g e : Fin 8) (p : Fin 64) :
    cot y (ix6 d k i g e p) = (((A.blk d g k).dy i (ln e p) : ℝ) : EReal) :=
  (cot_at y d k i g e p).trans (H.dy _ _)

/-- The decay exponents of a chunk. -/
theorem logs_val (H : Has x t a h y A) (d : Fin 2) (k : Fin 16) (i : Fin 128) (g e : Fin 8) :
    logs t a (ix5 d k i g e) = (((A.blk d g k).dt i e * (A.blk d g k).a e : ℝ) : EReal) := by
  rw [logs_at, steps_val H, H.al, Ideal.exp_coe, ← EReal.coe_neg, ← EReal.coe_mul]
  rfl

/-- The decay exponents summed along a chunk. -/
theorem cum_val (H : Has x t a h y A) (d : Fin 2) (k : Fin 16) (i : Fin 128) (g e : Fin 8) :
    cum t a (ix5 d k i g e) = (((A.blk d g k).cs i e : ℝ) : EReal) := by
  have h0 : (broadcastInDim S_ ![] bcast_S_S_ (constant S_ .f32 0x00000000#32) : FVec Ideal S_ .f32) (Shape.Idx.first h_S_) = (0 : EReal) :=
    Ideal.ofBits_zero .f32
  show Ideal.hostReduceWindowAdd (s := SC) ![1, 1, 128, 1, 1] ![1, 1, 1, 1, 1] ![0, 0, 127, 0, 0] ![0, 0, 0, 0, 0]
    reduceWindows_S2x16x128x8x8_S2x16x128x8x8_w1s1p0_0_w1s1p0_0_w128s1p127_0_w1s1p0_0_w1s1p0_0 (logs t a)
    ((broadcastInDim S_ ![] bcast_S_S_ (constant S_ .f32 0x00000000#32) : FVec Ideal S_ .f32) (Shape.Idx.first h_S_)) _ = _
  rw [h0]
  refine (cumsum (logs t a) (fun d k i g e => (A.blk d g k).dt i e * (A.blk d g k).a e) (fun d k i g e => logs_val H d k i g e)
    reduceWindows_S2x16x128x8x8_S2x16x128x8x8_w1s1p0_0_w1s1p0_0_w128s1p127_0_w1s1p0_0_w1s1p0_0 d k i g e).trans ?_
  refine coe_eq (Finset.sum_congr rfl fun j _ => ?_)
  show _ = (if decide (j ≤ i) = true then (1 : ℝ) else 0) * _
  simp only [decide_eq_true_eq]

/-- The decay from row to row of a chunk. -/
theorem decay_val (H : Has x t a h y A) (d : Fin 2) (k : Fin 16) (i j : Fin 128) (g e : Fin 8) :
    decay (cum t a) (ix6 d k i j g e) = (((A.blk d g k).L i j e : ℝ) : EReal) := by
  rw [decay_at, cum_val H, cum_val H, ← EReal.coe_sub, exp_mask]
  rfl

/-- The gradient of the scores of a chunk. -/
theorem scores_val (H : Has x t a h y A) (d : Fin 2) (k : Fin 16) (i j : Fin 128) (g e : Fin 8) :
    scores (cot y) (scaled x t) (decay (cum t a)) (ix6 d k i j g e)
      = (((A.blk d g k).dm i j e * (A.blk d g k).L i j e : ℝ) : EReal) := by
  rw [scores_at, decay_val H]
  simp only [cot_val H, scaled_val H, ← EReal.coe_mul]
  rw [← coe_sum, ← EReal.coe_mul]
  rfl

theorem summed_val (H : Has x t a h y A) (d : Fin 2) (k : Fin 16) (i j : Fin 128) (g : Fin 8) :
    summed (scores (cot y) (scaled x t) (decay (cum t a))) (ix5 d k i j g) = (((A.blk d g k).dcb i j : ℝ) : EReal) := by
  rw [summed_at]
  simp only [scores_val H]
  rw [← coe_sum]
  rfl

/-- The two parts of the gradient in a chunk. -/
theorem within_val (H : Has x t a h y A) (d : Fin 2) (k : Fin 16) (i : Fin 128) (g : Fin 8) (n : Fin 128) :
    within (summed (scores (cot y) (scaled x t) (decay (cum t a)))) (inp x) (ix5 d k i g n)
      = ((∑ j, (A.blk d g k).dcb i j * (A.blk d g k).b j n : ℝ) : EReal) := by
  rw [within_at]
  simp only [summed_val H, inp_val H, ← EReal.coe_mul]
  rw [← coe_sum]

theorem carried_val (H : Has x t a h y A) (d : Fin 2) (k : Fin 16) (i : Fin 128) (g : Fin 8) (n : Fin 128) :
    carried (cum t a) (cot y) h (ix5 d k i g n)
      = ((∑ l, (A.blk d g k).dye i l * A.Hk d g k n l : ℝ) : EReal) := by
  rw [carried_at]
  simp only [cum_val H, cot_val H, H.hi, Ideal.exp_coe, ← EReal.coe_mul, ← coe_sum]
  rw [sum_ln]
  refine coe_eq (Finset.sum_congr rfl fun e _ => Finset.sum_congr rfl fun p _ => ?_)
  show _ = (A.blk d g k).dy i (ln e p) * Real.exp ((A.blk d g k).cs i (hd (ln e p))) * A.h d k g (hd (ln e p)) ⟨(ln e p).val % 64, _⟩ n
  have hp : (⟨(ln e p).val % 64, by omega⟩ : Fin 64) = p := Fin.ext (by show (e.val * 64 + p.val) % 64 = p.val; omega)
  rw [hd_ln, hp, mul_comm (Real.exp _)]

/-- The reference's result is the gradient of the output projection. -/
theorem result_val (H : Has x t a h y A) (d : Fin 2) (n : Fin 2048) (l : Fin 1024) :
    result x t a h y (ix3 d n l) = ((A.odC d n l : ℝ) : EReal) := by
  rw [A.odC_eq]
  refine (back_at _ d n l).trans ?_
  generalize (⟨l.val / 128, by omega⟩ : Fin 8) = g
  generalize (⟨l.val % 128, by omega⟩ : Fin 128) = q
  generalize chk (lr d n) = k
  generalize row (lr d n) = i
  refine (congrArg₂ (fun u v : EReal => u + v) (carried_val H d k i g q) (within_val H d k i g q)).trans ?_
  rw [← EReal.coe_add]
  rfl

end Cert.ReferenceIdeal.Ssd

end
-- ==== Proof.Gate.lean ====
module

public import Idealize.ShloMosaic.Lib.Pointwise
public import Idealize.ShloMosaic.Lib.IdealHost

/-! The derivative of the gate's activation over the extended reals, and what a finite entry is. -/

@[expose] public section

noncomputable section

namespace Cert.Gate

open Idealize.ShloMosaic

/-- The pattern of infinity is the top of the extended reals. -/
theorem top : Ideal.ofBits .f32 0x7F800000#32 = ⊤ := by simp [Ideal.ofBits, Ideal.ieee]

/-- An entry whose absolute value is below infinity is a real number. -/
theorem real (x : Ideal .f32)
    (h : BitVec.ofBool (decide (FloatOps.absf x < Ideal.ofBits .f32 0x7F800000#32)) = 1#1) :
    ∃ r : ℝ, (x : EReal) = (r : EReal) := by
  have hlt : max (x : EReal) (-(x : EReal)) < ⊤ := by
    by_contra hn
    have hf : decide (FloatOps.absf x < Ideal.ofBits .f32 0x7F800000#32) = false :=
      decide_eq_false (by rw [top]; exact hn)
    rw [hf] at h
    exact absurd h (by decide)
  obtain ⟨h1, h2⟩ := max_lt_iff.mp hlt
  induction x using EReal.rec with
  | bot => simp at h2
  | top => simp at h1
  | coe r => exact ⟨r, rfl⟩

/-- A sum of products of real numbers is a real number. -/
theorem real_sum {n : Nat} (f g : Fin n → EReal) (hf : ∀ k, ∃ r : ℝ, f k = r) (hg : ∀ k, ∃ r : ℝ, g k = r) :
    ∃ r : ℝ, ∑ k, f k * g k = (r : EReal) := by
  choose a ha using hf
  choose b hb using hg
  induction n with
  | zero => exact ⟨0, by simp⟩
  | succ n ih =>
    obtain ⟨r, hr⟩ := ih (fun k => f k.succ) (fun k => g k.succ) (fun k => a k.succ) (fun k => ha _)
      (fun k => b k.succ) (fun k => hb _)
    exact ⟨a 0 * b 0 + r, by rw [Fin.sum_univ_succ, hr, ha, hb]; push_cast; rfl⟩

/-- The two ways of writing the derivative of `g · s` with `s = 1 / (1 + exp (-g))`, times a real number. -/
theorem gate (r : ℝ) (g : EReal) :
    (r : EReal) * Ideal.div 1 (1 + Ideal.exp (-g))
        + g * (r : EReal) * (Ideal.div 1 (1 + Ideal.exp (-g)) * (1 - Ideal.div 1 (1 + Ideal.exp (-g))))
      = (r : EReal) * (Ideal.div 1 (1 + Ideal.exp (-g)) * (1 + g * (1 - Ideal.div 1 (1 + Ideal.exp (-g))))) := by
  have one : (1 : EReal) = ((1 : ℝ) : EReal) := rfl
  induction g using EReal.rec with
  | bot =>
    have h : Ideal.div 1 (1 + Ideal.exp (-(⊥ : EReal))) = 0 := by
      rw [EReal.neg_bot, Ideal.exp_top, one, EReal.coe_add_top]
      simp [Ideal.div]
    rw [h]; simp
  | top =>
    have h : Ideal.div 1 (1 + Ideal.exp (-(⊤ : EReal))) = 1 := by
      rw [EReal.neg_top, Ideal.exp_bot, add_zero]
      rw [show (1 : EReal) = ((1 : ℝ) : EReal) from rfl, Ideal.div_coe one_ne_zero]
      norm_num
    have h0 : (1 : EReal) - 1 = 0 := by rw [one, ← EReal.coe_sub]; simp
    rw [h, h0]; simp
  | coe g =>
    have hp : (1 + Real.exp (-g)) ≠ 0 := by positivity
    have h : Ideal.div 1 (1 + Ideal.exp (-(g : EReal))) = ((1 / (1 + Real.exp (-g)) : ℝ) : EReal) := by
      rw [← EReal.coe_neg, Ideal.exp_coe, one, ← EReal.coe_add, Ideal.div_coe hp, ← EReal.coe_mul, one_mul]
    rw [h, one]
    simp only [← EReal.coe_sub, ← EReal.coe_mul, ← EReal.coe_add]
    exact congrArg _ (by ring)

end Cert.Gate

end
-- ==== Proof.ScanArgs.lean ====
module

public import proofs.«01_k».proof.Defs
public import proofs.«01_k».proof.Proof.ScanOut
public import proofs.«01_k».proof.Proof.ScanVal
public import proofs.«01_k».proof.Proof.Gate
public import proofs.«01_k».proof.Proof.Gen.Pre_scan_finite

/-! Finite arguments are reals, and for them the reference's result is the array the kernel leaves. -/

@[expose] public section

set_option maxRecDepth 16384

noncomputable section

namespace Cert.Scan

open Idealize.ShloMosaic Idealize.SL.Sem

/-- The reference's result from the kernel's arguments. -/
def res (m : (ℓ : Loc Cert.KernelIdeal.nD Cert.KernelIdeal.τ Cert.KernelIdeal.sig) → Buf (Elt Ideal) ℓ) (c : Dev Cert.KernelIdeal.nD) :
    FVec Ideal Cert.ReferenceIdeal.S2x2048x1024 .f32 :=
  Cert.ReferenceIdeal.Ssd.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))

/-- Finite arguments are reals. -/
theorem reals (m : (ℓ : Loc Cert.KernelIdeal.nD Cert.KernelIdeal.τ Cert.KernelIdeal.sig) → Buf (Elt Ideal) ℓ)
    (hpre : Cert.Pre_KernelIdeal_scan_finite (hPre_scan_finite := Cert.Pre_scan_finite.Gen.facts) m) (c : Dev Cert.KernelIdeal.nD) : ∃ A, Cert.KernelIdeal.Ssd.Has m c A := by
  obtain ⟨hx, ht, ha, hh, hy⟩ := hpre c
  have hx' : ∀ n j, ∃ r : ℝ, @Eq EReal (m ((c.tc : Thread _ _).loc Cert.KernelIdeal.main_arg0) (ix2 n j)) r := fun n j => by
    have h := congrFun hx (ix2 n j)
    pointwise [Cert.Pre_scan_finite.fn] at h
    exact Gate.real _ h
  have ht' : ∀ n j, ∃ r : ℝ, @Eq EReal (m ((c.tc : Thread _ _).loc Cert.KernelIdeal.main_arg1) (ix2 n j)) r := fun n j => by
    have h := congrFun ht (ix2 n j)
    pointwise [Cert.Pre_scan_finite.fn] at h
    exact Gate.real _ h
  have ha' : ∀ n j, ∃ r : ℝ, @Eq EReal (m ((c.tc : Thread _ _).loc Cert.KernelIdeal.main_arg2) (ix2 n j)) r := fun n j => by
    have h := congrFun ha (ix2 n j)
    pointwise [Cert.Pre_scan_finite.fn] at h
    exact Gate.real _ h
  have hh' : ∀ d k g e p n, ∃ r : ℝ, @Eq EReal (m ((c.tc : Thread _ _).loc Cert.KernelIdeal.main_arg3) (ix6 d k g e p n)) r := fun d k g e p n => by
    have h := congrFun hh (ix6 d k g e p n)
    pointwise [Cert.Pre_scan_finite.fn] at h
    exact Gate.real _ h
  have hy' : ∀ n j, ∃ r : ℝ, @Eq EReal (m ((c.tc : Thread _ _).loc Cert.KernelIdeal.main_arg4) (ix2 n j)) r := fun n j => by
    have h := congrFun hy (ix2 n j)
    pointwise [Cert.Pre_scan_finite.fn] at h
    exact Gate.real _ h
  choose xb hxb using hx'
  choose dt hdt using ht'
  choose al hal using ha'
  choose hi hhi using hh'
  choose dy hdy using hy'
  exact ⟨⟨xb, dt, al, hi, dy⟩, ⟨hxb, hdt, hal, hhi, hdy⟩⟩

/-- For arguments that are reals the reference's result is the gradient the kernel leaves. -/
theorem res_eq (m : (ℓ : Loc Cert.KernelIdeal.nD Cert.KernelIdeal.τ Cert.KernelIdeal.sig) → Buf (Elt Ideal) ℓ) (c : Dev Cert.KernelIdeal.nD)
    {A : Cert.Ssd.Args} (hA : Cert.KernelIdeal.Ssd.Has m c A) : res m c = Cert.KernelIdeal.Ssd.grad A := by
  funext y
  rw [eq_ix3 (y : Cert.ReferenceIdeal.S2x2048x1024.Idx)]
  exact Cert.ReferenceIdeal.Ssd.result_val ⟨hA.xb, hA.dt, hA.al, hA.hi, hA.dy⟩ (y 0) (y 1) (y 2)

end Cert.Scan

end
-- ==== Proof.ScanRun.lean ====
module

public import proofs.«01_k».proof.Proof.ScanRef
public import Idealize.ShloMosaic.Lib.Claim
public import Idealize.ShloMosaic.Lib.Quiescent

/-! What the scan's reference leaves: the named result, and its arguments as they were. -/

@[expose] public section

set_option maxRecDepth 16384

noncomputable section

namespace Cert.Scan

open Idealize.ShloMosaic Idealize.SL.Sem

namespace Calls

open Cert.ReferenceIdeal

/-! A function of the reference reads and writes its caller's arrays as they are: one line for each array handed over. -/

theorem to_v4 (X : (⟨S2048x64x64, .f32⟩ : BufTy).Contents (Elt Ideal)) :
    (StableHlo.TRef.of (sig := sig) (T := ⟨S2048x64x64, .f32⟩) main_v4).toBuf X = X := rfl
theorem to_v9 (X : (⟨S2048x8x128, .f32⟩ : BufTy).Contents (Elt Ideal)) :
    (StableHlo.TRef.of (sig := sig) (T := ⟨S2048x8x128, .f32⟩) main_v9).toBuf X = X := rfl
theorem to_v23 (X : (⟨S2048x64, .f32⟩ : BufTy).Contents (Elt Ideal)) :
    (StableHlo.TRef.of (sig := sig) (T := ⟨S2048x64, .f32⟩) main_v23).toBuf X = X := rfl
theorem to_v39 (X : (⟨S2x16x128x8x8, .f32⟩ : BufTy).Contents (Elt Ideal)) :
    (StableHlo.TRef.of (sig := sig) (T := ⟨S2x16x128x8x8, .f32⟩) main_v39).toBuf X = X := rfl
theorem to_v41 (X : (⟨S128x128, .i1⟩ : BufTy).Contents (Elt Ideal)) :
    (StableHlo.TRef.of (sig := sig) (T := ⟨S128x128, .i1⟩) main_v41).toBuf X = X := rfl
theorem to_v48 (X : (⟨S2x16x128x128x8x8, .f32⟩ : BufTy).Contents (Elt Ideal)) :
    (StableHlo.TRef.of (sig := sig) (T := ⟨S2x16x128x128x8x8, .f32⟩) main_v48).toBuf X = X := rfl
theorem to_v66 (X : (⟨S2048x64x64, .f32⟩ : BufTy).Contents (Elt Ideal)) :
    (StableHlo.TRef.of (sig := sig) (T := ⟨S2048x64x64, .f32⟩) main_v66).toBuf X = X := rfl
theorem to_v92 (X : (⟨S2048x8x128, .f32⟩ : BufTy).Contents (Elt Ideal)) :
    (StableHlo.TRef.of (sig := sig) (T := ⟨S2048x8x128, .f32⟩) main_v92).toBuf X = X := rfl
theorem of_v3 (X : (⟨S2048x64x64, .f32⟩ : BufTy).Contents (Elt Ideal)) :
    (StableHlo.TRef.of (sig := sig) (T := ⟨S2048x64x64, .f32⟩) main_v3).ofBuf X = X := rfl
theorem of_v8 (X : (⟨S2048x8x128, .f32⟩ : BufTy).Contents (Elt Ideal)) :
    (StableHlo.TRef.of (sig := sig) (T := ⟨S2048x8x128, .f32⟩) main_v8).ofBuf X = X := rfl
theorem of_v22 (X : (⟨S2048x64, .f32⟩ : BufTy).Contents (Elt Ideal)) :
    (StableHlo.TRef.of (sig := sig) (T := ⟨S2048x64, .f32⟩) main_v22).ofBuf X = X := rfl
theorem of_v38 (X : (⟨S2x16x128x8x8, .f32⟩ : BufTy).Contents (Elt Ideal)) :
    (StableHlo.TRef.of (sig := sig) (T := ⟨S2x16x128x8x8, .f32⟩) main_v38).ofBuf X = X := rfl
theorem of_v40 (X : (⟨S128x128, .i1⟩ : BufTy).Contents (Elt Ideal)) :
    (StableHlo.TRef.of (sig := sig) (T := ⟨S128x128, .i1⟩) main_v40).ofBuf X = X := rfl
theorem of_v42 (X : (⟨S128x128x1x1, .i1⟩ : BufTy).Contents (Elt Ideal)) :
    (StableHlo.TRef.of (sig := sig) (T := ⟨S128x128x1x1, .i1⟩) main_v42).ofBuf X = X := rfl
theorem of_v47 (X : (⟨S2x16x128x128x8x8, .f32⟩ : BufTy).Contents (Elt Ideal)) :
    (StableHlo.TRef.of (sig := sig) (T := ⟨S2x16x128x128x8x8, .f32⟩) main_v47).ofBuf X = X := rfl
theorem of_cst (X : (⟨S_, .f32⟩ : BufTy).Contents (Elt Ideal)) :
    (StableHlo.TRef.of (sig := sig) (T := ⟨S_, .f32⟩) main_cst).ofBuf X = X := rfl
theorem of_v65 (X : (⟨S2048x64x64, .f32⟩ : BufTy).Contents (Elt Ideal)) :
    (StableHlo.TRef.of (sig := sig) (T := ⟨S2048x64x64, .f32⟩) main_v65).ofBuf X = X := rfl
theorem of_v91 (X : (⟨S2048x8x128, .f32⟩ : BufTy).Contents (Elt Ideal)) :
    (StableHlo.TRef.of (sig := sig) (T := ⟨S2048x8x128, .f32⟩) main_v91).ofBuf X = X := rfl

end Calls

open Cert.ReferenceIdeal

attribute [local instance] Cert.ReferenceIdeal.Gen.facts

set_option maxHeartbeats 1600000 in
/-- The reference runs to the end with its result in place and its arguments unchanged. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v96) = Cert.ReferenceIdeal.Ssd.result
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  repeat rw [StableHlo.TRef.ofBuf_toBuf]
  rw [Calls.of_v3, Calls.of_v8, Calls.of_v22, Calls.of_v38, Calls.of_v40, Calls.of_v42, Calls.of_v47, Calls.of_cst, Calls.of_v65, Calls.of_v91,
    Calls.to_v4, Calls.to_v9, Calls.to_v23, Calls.to_v39, Calls.to_v41, Calls.to_v48, Calls.to_v66, Calls.to_v92]
  rfl

end Cert.Scan

end
-- ==== Proof.ScanEq.lean ====
module

public import proofs.«01_k».proof.Defs
public import proofs.«01_k».proof.Proof.ScanArgs
public import proofs.«01_k».proof.Proof.ScanRun
public import Idealize.ShloMosaic.Lib.Claim
public import Idealize.ShloMosaic.Lib.Quiescent

/-! The scan's backward call: the array of the output projection's gradients is the reference's. -/

@[expose] public section

set_option maxRecDepth 16384

noncomputable section

namespace Cert.Scan

open Idealize.ShloMosaic Idealize.SL.Sem

set_option maxHeartbeats 1600000 in
/-- The scan's reference runs to the end and leaves its arguments as they were. -/
theorem frame : Cert.quiescent_ReferenceIdeal (hReferenceIdeal := Cert.ReferenceIdeal.Gen.facts) := by
  intro m g _
  hlo_run
  · exact fun _ => ⟨trivial, trivial, trivial, trivial, trivial, trivial⟩
  · exact sem_eq_zero_of_no_sems rfl _

set_option maxHeartbeats 1600000 in
/-- The same with finite arguments. -/
theorem frame_finite : Cert.quiescent_ReferenceIdeal_pre_scan_finite (hReferenceIdeal := Cert.ReferenceIdeal.Gen.facts)
    (hPre_scan_finite := Cert.Pre_scan_finite.Gen.facts) := by
  intro m g _
  hlo_run
  · exact fun _ => ⟨trivial, trivial, trivial, trivial, trivial, trivial⟩
  · exact sem_eq_zero_of_no_sems rfl _

/-- The kernel's array of gradients is the reference's, wherever the arguments are finite. -/
theorem equal : Cert.algebraic_KernelIdeal_ReferenceIdeal_pre_scan_finite
    (hKernelIdeal := Cert.KernelIdeal.Gen.facts)
    (hReferenceIdeal := Cert.ReferenceIdeal.Gen.facts)
    (hPre_scan_finite := Cert.Pre_scan_finite.Gen.facts) := by
  pair_intro
  · run_from Cert.KernelIdeal.Gen.run_main m g
    · exact Cert.KernelIdeal.Gen.V_main_arg1 m c
    · exact Cert.KernelIdeal.Gen.V_main_arg2 m c
    · exact Cert.KernelIdeal.Gen.V_main_arg3 m c
    · exact Cert.KernelIdeal.Gen.V_main_arg5 m c
  · refine (θ_run _ _ _).mono (fun r h c => ⟨(h c).1.trans ?_, (h c).2⟩) (ref_run m' g')
    obtain ⟨A, hA⟩ := reals m hpre c
    refine Eq.trans ?_ ((res_eq m c hA).trans (Cert.KernelIdeal.Ssd.final m c hA).symm)
    obtain ⟨h0, h1, h2, h3, h4, _⟩ := hagree c
    rw [h0, h1, h2, h3, h4]
    rfl

end Cert.Scan

end
-- ==== Proof.Act.lean ====
module

public import proofs.«01_k».proof.Proof.Gen.Kernel2Ideal.Frame
public import Idealize.ShloMosaic.Lib.Pipeline.ValueKit
public import Idealize.ShloMosaic.Lib.Pointwise

/-! The gradients of the gate and of the other branch before their product. -/

@[expose] public section

set_option maxRecDepth 16384

noncomputable section

namespace Cert.Kernel2Ideal.Value

open Idealize.ShloMosaic Idealize.ShloMosaic.TcCoe Idealize.SL.Sem
open Cert.Kernel2Ideal Cert.Kernel2Ideal.Gen

variable (m : (ℓ : Loc nD τ sig) → Buf (Elt Ideal) ℓ)

/-- The gradient of the hidden activations: half the cotangent times the transposed weight. -/
def hid (wd : FVec Ideal S1x5632x2048 .f32) (dx : FVec Ideal S2048x2048 .f32) (i : Fin 2048) (j : Fin 5632) : EReal :=
  Ideal.ofBits .f32 0x3F000000#32 * (∑ k : Fin 2048, (dx (ix2 i k) : EReal) * (wd (ix3 0 j k) : EReal))

/-- The logistic function. -/
def logis (g : EReal) : EReal := Ideal.div 1 (1 + Ideal.exp (0 - g))

/-- What the first array of results holds: the gradient of the gate. -/
def dgate (g u : FVec Ideal S2048x5632 .f32) (wd : FVec Ideal S1x5632x2048 .f32) (dx : FVec Ideal S2048x2048 .f32) :
    FVec Ideal S2048x5632 .bf16 :=
  fun y => (hid wd dx (y 0) (y 1) * (u y : EReal) * (logis (g y) * (1 + (g y : EReal) * (1 - logis (g y)))) : EReal)

/-- What the second array of results holds: the gradient of the other branch. -/
def dlin (g u : FVec Ideal S2048x5632 .f32) (wd : FVec Ideal S1x5632x2048 .f32) (dx : FVec Ideal S2048x2048 .f32) :
    FVec Ideal S2048x5632 .bf16 :=
  fun y => (hid wd dx (y 0) (y 1) * (g y : EReal) * logis (g y) : EReal)

/-- The block each window reads or writes at a point of the grid. -/
theorem idx : ∀ t : Fin cfg0.N, win0_0.index t = ![t.val % 4, 0]
    ∧ win0_1.index t = ![0, t.val / 4, 0]
    ∧ win0_2.index t = ![t.val % 4, t.val / 4]
    ∧ win0_3.index t = ![t.val % 4, t.val / 4]
    ∧ win0_4.index t = ![t.val % 4, t.val / 4]
    ∧ win0_5.index t = ![t.val % 4, t.val / 4] :=
  (by decide +kernel : ∀ t : Fin grid0.N, _)

/-- What the body stores of the first result at a point is the block of the gate's gradient there. -/
theorem point4 (c : Dev nD) (t : Fin cfg0.N) (y) :
    k0_pay4 (iblk m c 0 t) (iblk m c 1 t) (iblk m c 2 t) (iblk m c 3 t) y
      = dgate (m ((c : Thread nD τ).loc main_arg0)) (m ((c : Thread nD τ).loc main_arg1)) (m ((c : Thread nD τ).loc main_arg2)) (m ((c : Thread nD τ).loc main_arg3))
          (((cfg0.win 4).blk t).view.emb y) := by
  pointwise [k0_pay4, k0_pay1, k0_pay2, k0_pay3, dgate, hid, logis]
  blk_point [iblk, V, idx t]

/-- What the body stores of the second result at a point is the block of the branch's gradient there. -/
theorem point5 (c : Dev nD) (t : Fin cfg0.N) (y) :
    k0_pay5 (iblk m c 0 t) (iblk m c 1 t) (iblk m c 2 t) y
      = dlin (m ((c : Thread nD τ).loc main_arg0)) (m ((c : Thread nD τ).loc main_arg1)) (m ((c : Thread nD τ).loc main_arg2)) (m ((c : Thread nD τ).loc main_arg3))
          (((cfg0.win 5).blk t).view.emb y) := by
  pointwise [k0_pay5, k0_pay1, k0_pay2, k0_pay3, dlin, hid, logis]
  blk_point [iblk, V, idx t]

/-- After the run the first array of results is the gradient of the gate. -/
theorem final4 (c : Dev nD) : (dats m 0 c).arrAt 4 (cfgs 0).N
    = dgate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point4 m c t y

/-- After the run the second array of results is the gradient of the other branch. -/
theorem final5 (c : Dev nD) : (dats m 0 c).arrAt 5 (cfgs 0).N
    = dlin (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point5 m c t y

end Cert.Kernel2Ideal.Value

end
-- ==== Proof.Half.lean ====
module

public import Idealize.ShloMosaic.Lib.Pointwise
public import Idealize.ShloMosaic.Lib.IdealHost

/-! The constant one half, and its product with a sum of extended reals. -/

@[expose] public section

noncomputable section

namespace Cert.Half

open Idealize.ShloMosaic

/-- The f32 pattern `0x3F000000` is one half. -/
theorem half : Ideal.ofBits .f32 0x3F000000#32 = ((1 / 2 : ℝ) : EReal) := by
  simp [Ideal.ofBits, Ideal.ieee, -EReal.coe_mul]; norm_num

/-- One half times a sum of extended reals is the sum of the halves. -/
theorem half_sum {n : Nat} (f : Fin n → EReal) :
    Ideal.ofBits .f32 0x3F000000#32 * ∑ k, f k = ∑ k, Ideal.ofBits .f32 0x3F000000#32 * f k := by
  rw [half]
  induction n with
  | zero => simp
  | succ n ih =>
    rw [Fin.sum_univ_succ, Fin.sum_univ_succ, ← ih]
    exact EReal.left_distrib_of_nonneg_of_ne_top (by exact_mod_cast (by norm_num : (0 : ℝ) ≤ 1 / 2)) (EReal.coe_ne_top _) _ _

end Cert.Half

end
-- ==== Proof.ActEq.lean ====
module

public import proofs.«01_k».proof.Defs
public import proofs.«01_k».proof.Proof.Act
public import proofs.«01_k».proof.Proof.Gen.Reference2Ideal
public import Idealize.ShloMosaic.Lib.Claim
public import Idealize.ShloMosaic.Lib.Quiescent
public import proofs.«01_k».proof.Proof.Half
public import proofs.«01_k».proof.Proof.Gate
public import proofs.«01_k».proof.Proof.Gen.Pre_finite

/-! The gradients of the two branches of the gate: the kernel and the reference compute the same arrays. -/

@[expose] public section

set_option maxRecDepth 16384

noncomputable section

namespace Cert.Act

open Idealize.ShloMosaic Idealize.SL.Sem

/-- The reference runs to the end and leaves its arguments as they were. -/
theorem frame : Cert.quiescent_Reference2Ideal (hReference2Ideal := Cert.Reference2Ideal.Gen.facts) := by
  intro m g _
  hlo_run
  · exact fun _ => ⟨trivial, trivial, trivial, trivial⟩
  · exact sem_eq_zero_of_no_sems rfl _

/-- With the named arguments finite too the reference runs to the end and leaves its arguments as they were. -/
theorem frame_finite : Cert.quiescent_Reference2Ideal_pre_finite (hReference2Ideal := Cert.Reference2Ideal.Gen.facts) (hPre_finite := Cert.Pre_finite.Gen.facts) := by
  intro m g _
  hlo_run
  · exact fun _ => ⟨trivial, trivial, trivial, trivial⟩
  · exact sem_eq_zero_of_no_sems rfl _

/-- The kernel's two arrays of results are the reference's, wherever the named arguments are finite. -/
theorem equal : Cert.algebraic_Kernel2Ideal_Reference2Ideal_pre_finite
    (hKernel2Ideal := Cert.Kernel2Ideal.Gen.facts)
    (hReference2Ideal := Cert.Reference2Ideal.Gen.facts)
    (hPre_finite := Cert.Pre_finite.Gen.facts) := by
  pair_intro
  · run_from Cert.Kernel2Ideal.Gen.run_main m g
  · hlo_run
    · rw [Cert.Kernel2Ideal.Value.final4]
      simp only [StableHlo.TRef.ofBuf_toBuf]
      simp only [StableHlo.TRef.ofBuf, StableHlo.TRef.toBuf, cast_eq]
      obtain ⟨hu, hw, hd⟩ := hpre c
      funext y
      pointwise [Cert.Kernel2Ideal.Value.dgate, Cert.Kernel2Ideal.Value.hid, Cert.Kernel2Ideal.Value.logis]
      show (_ : EReal) = _
      have hu' := congrFun hu y
      pointwise [Cert.Pre_finite.fn] at hu'
      have hw' : ∀ k : Fin 2048, ∃ r : ℝ,
          @Eq EReal (m ((c.tc : Thread _ _).loc Kernel2Ideal.main_arg2) (ix3 0 (y 1) k)) r := fun k => by
        have h := congrFun hw (ix3 0 (y 1) k)
        pointwise [Cert.Pre_finite.fn] at h
        exact Gate.real _ h
      have hd' : ∀ k : Fin 2048, ∃ r : ℝ,
          @Eq EReal (m ((c.tc : Thread _ _).loc Kernel2Ideal.main_arg3) (ix2 (y 0) k)) r := fun k => by
        have h := congrFun hd (ix2 (y 0) k)
        pointwise [Cert.Pre_finite.fn] at h
        exact Gate.real _ h
      obtain ⟨u, hu⟩ := Gate.real _ hu'
      obtain ⟨s, hs⟩ := Gate.real_sum _ _ hd' hw'
      simp only [mul_assoc] at hs ⊢
      rw [← Half.half_sum, zero_sub, hs, hu, Half.half]
      simp only [← mul_assoc, ← EReal.coe_mul]
      have h := Gate.gate (1 / 2 * s * u) (m ((c.tc : Thread _ _).loc Kernel2Ideal.main_arg0) y)
      simp only [← mul_assoc] at h
      exact h
    · rw [Cert.Kernel2Ideal.Value.final5]
      simp only [StableHlo.TRef.ofBuf_toBuf]
      simp only [StableHlo.TRef.ofBuf, StableHlo.TRef.toBuf, cast_eq]
      funext y
      pointwise [Cert.Kernel2Ideal.Value.dlin, Cert.Kernel2Ideal.Value.hid, Cert.Kernel2Ideal.Value.logis]
      show (_ : EReal) = _
      rw [Half.half_sum, zero_sub]
      rw [mul_assoc (Finset.sum _ _), mul_comm (Finset.sum _ _)]
      simp only [mul_assoc]

end Cert.Act

end
-- ==== Proof.Dwd.lean ====
module

public import proofs.«01_k».proof.Proof.Gen.Kernel3Ideal.Frame
public import Idealize.ShloMosaic.Lib.Pipeline.ValueKit
public import Idealize.ShloMosaic.Lib.Pointwise
public import Idealize.ShloMosaic.Lib.Claim

/-! The gradient of the output weight: half the hidden activations transposed times the cotangent. -/

@[expose] public section

set_option maxRecDepth 16384

noncomputable section

namespace Cert.Kernel3Ideal.Value

open Idealize.ShloMosaic Idealize.ShloMosaic.TcCoe Idealize.SL.Sem
open Cert.Kernel3Ideal Cert.Kernel3Ideal.Gen

variable (m : (ℓ : Loc nD τ sig) → Buf (Elt Ideal) ℓ)

/-- What the array of results holds: half the product of the transposed first array and the second. -/
def prod (a : FVec Ideal S2048x5632 .bf16) (d : FVec Ideal S2048x2048 .f32) : FVec Ideal S5632x2048 .bf16 :=
  fun y => Ideal.ofBits .f32 0x3F000000#32 * ((∑ k : Fin 2048, (a (ix2 k (y 0)) : EReal) * (d (ix2 k (y 1)) : EReal) : EReal))

/-- The block each window reads or writes at a point of the grid. -/
theorem idx : ∀ t : Fin cfg0.N, win0_0.index t = ![0, t.val % 4]
    ∧ win0_1.index t = ![0, t.val / 4]
    ∧ win0_2.index t = ![t.val % 4, t.val / 4] :=
  (by decide +kernel : ∀ t : Fin grid0.N, _)

/-- What the body stores at a point is the block of the product there. -/
theorem point (c : Dev nD) (t : Fin cfg0.N) (y) :
    k0_pay1 (iblk m c 0 t) (iblk m c 1 t) y
      = prod (V m c main_v2) (m ((c : Thread nD τ).loc main_arg3))
          (((cfg0.win 2).blk t).view.emb y) := by
  pointwise [k0_pay1, prod]
  blk_point [iblk, V, idx t]

/-- The hidden activations as the host computes them before the call. -/
theorem entry (c : Dev nD) (y : S2048x5632.Idx) :
    (V m c main_v2 : FVec Ideal S2048x5632 .bf16) y
      = ((id (α := FVec Ideal S2048x5632 .f32) (m ((c : Thread nD τ).loc main_arg0)) y : EReal)
          * Ideal.div 1 (1 + Ideal.exp (-(id (α := FVec Ideal S2048x5632 .f32) (m ((c : Thread nD τ).loc main_arg0)) y : EReal)))
          * (id (α := FVec Ideal S2048x5632 .f32) (m ((c : Thread nD τ).loc main_arg1)) y : EReal) : EReal) := by
  show StableHlo.after [hostOps0, hostOps0_1].flatten (fun b => m (c, b)) (Proc.tc.devRef main_v2) y = _
  simp only [hostOps0, hostOps0_1, List.flatten_cons, List.flatten_nil, List.append_nil, List.cons_append,
    List.nil_append]
  entry_read
  simp only [StableHlo.TRef.ofBuf_toBuf]
  simp only [StableHlo.TRef.ofBuf, StableHlo.TRef.toBuf, cast_eq]
  pointwise
  rfl

/-- After the run the array of results is the product. -/
theorem final (c : Dev nD) : (dats m 0 c).arrAt 2 (cfgs 0).N
    = prod (V m c main_v2) (m ((c : Thread nD τ).loc main_arg3)) := by
  refine (dats m 0 c).arrAt_eq_of_covers 2 _ (by decide +kernel) fun t hf y => ?_
  blk_simp; rw [after0_2]; frame_out
  exact point m c t y

end Cert.Kernel3Ideal.Value

end
-- ==== Proof.DwdEq.lean ====
module

public import proofs.«01_k».proof.Defs
public import proofs.«01_k».proof.Proof.Dwd
public import proofs.«01_k».proof.Proof.Gen.Reference3Ideal
public import Idealize.ShloMosaic.Lib.Claim
public import Idealize.ShloMosaic.Lib.Quiescent
public import proofs.«01_k».proof.Proof.Half

/-! The gradient of the output weight: the kernel and the reference compute the same array. -/

@[expose] public section

set_option maxRecDepth 16384

noncomputable section

namespace Cert.Dwd

open Idealize.ShloMosaic Idealize.SL.Sem

/-- The reference runs to the end and leaves its arguments as they were. -/
theorem frame : Cert.quiescent_Reference3Ideal (hReference3Ideal := Cert.Reference3Ideal.Gen.facts) := by
  intro m g _
  hlo_run
  · exact fun _ => ⟨trivial, trivial, trivial, trivial⟩
  · exact sem_eq_zero_of_no_sems rfl _

/-- The kernel's array of results is the reference's. -/
theorem equal : Cert.algebraic_Kernel3Ideal_Reference3Ideal
    (hKernel3Ideal := Cert.Kernel3Ideal.Gen.facts)
    (hReference3Ideal := Cert.Reference3Ideal.Gen.facts) := by
  pair_intro
  · run_from Cert.Kernel3Ideal.Gen.run_main m g
    · exact Cert.Kernel3Ideal.Gen.V_main_arg0 m c
    · exact Cert.Kernel3Ideal.Gen.V_main_arg1 m c
    · exact Cert.Kernel3Ideal.Gen.V_main_arg2 m c
  · hlo_run
    rw [Cert.Kernel3Ideal.Value.final]
    simp only [StableHlo.TRef.ofBuf_toBuf]
    simp only [StableHlo.TRef.ofBuf, StableHlo.TRef.toBuf, cast_eq]
    funext y
    pointwise [Cert.Kernel3Ideal.Value.prod]
    show (_ : EReal) = _
    rw [Half.half_sum]
    refine Fin.sum_fin_congr fun k => ?_
    rw [Cert.Kernel3Ideal.Value.entry, mul_assoc]
    exact congrArg (fun z : EReal => _ * z) (mul_comm _ _)

end Cert.Dwd

end
-- ==== Proof.Dwg.lean ====
module

public import proofs.«01_k».proof.Proof.Gen.Kernel4Ideal.Frame
public import Idealize.ShloMosaic.Lib.Pipeline.ValueKit
public import Idealize.ShloMosaic.Lib.Pointwise

/-! The gradient of the gate weight: the input transposed times the cotangent. -/

@[expose] public section

set_option maxRecDepth 16384

noncomputable section

namespace Cert.Kernel4Ideal.Value

open Idealize.ShloMosaic Idealize.ShloMosaic.TcCoe Idealize.SL.Sem
open Cert.Kernel4Ideal Cert.Kernel4Ideal.Gen

variable (m : (ℓ : Loc nD τ sig) → Buf (Elt Ideal) ℓ)

/-- What the array of results holds: the product of the transposed first array and the second. -/
def prod (x : FVec Ideal S2048x2048 .f32) (d : FVec Ideal S2048x5632 .f32) : FVec Ideal S2048x5632 .bf16 :=
  fun y => ((∑ k : Fin 2048, (x (ix2 k (y 0)) : EReal) * (d (ix2 k (y 1)) : EReal) : EReal))

/-- The block each window reads or writes at a point of the grid. -/
theorem idx : ∀ t : Fin cfg0.N, win0_0.index t = ![0, t.val % 2]
    ∧ win0_1.index t = ![0, t.val / 2]
    ∧ win0_2.index t = ![t.val % 2, t.val / 2] :=
  (by decide +kernel : ∀ t : Fin grid0.N, _)

/-- What the body stores at a point is the block of the product there. -/
theorem point (c : Dev nD) (t : Fin cfg0.N) (y) :
    k0_pay1 (iblk m c 0 t) (iblk m c 1 t) y
      = prod (m ((c : Thread nD τ).loc main_arg0)) (m ((c : Thread nD τ).loc main_arg2))
          (((cfg0.win 2).blk t).view.emb y) := by
  pointwise [k0_pay1, prod]
  blk_point [iblk, V, idx t]

/-- After the run the array of results is the product. -/
theorem final (c : Dev nD) : (dats m 0 c).arrAt 2 (cfgs 0).N
    = prod (m ((c : Thread nD τ).loc main_arg0)) (m ((c : Thread nD τ).loc main_arg2)) := by
  refine (dats m 0 c).arrAt_eq_of_covers 2 _ (by decide +kernel) fun t hf y => ?_
  blk_simp; rw [after0_2]; frame_out
  exact point m c t y

end Cert.Kernel4Ideal.Value

end
-- ==== Proof.DwgEq.lean ====
module

public import proofs.«01_k».proof.Defs
public import proofs.«01_k».proof.Proof.Dwg
public import proofs.«01_k».proof.Proof.Gen.Reference4Ideal
public import Idealize.ShloMosaic.Lib.Claim
public import Idealize.ShloMosaic.Lib.Quiescent

/-! The gradient of the gate weight: the kernel and the reference compute the same array. -/

@[expose] public section

set_option maxRecDepth 16384

noncomputable section

namespace Cert.Dwg

open Idealize.ShloMosaic Idealize.SL.Sem

/-- The reference runs to the end and leaves its arguments as they were. -/
theorem frame : Cert.quiescent_Reference4Ideal (hReference4Ideal := Cert.Reference4Ideal.Gen.facts) := by
  intro m g _
  hlo_run
  · exact fun _ => ⟨trivial, trivial, trivial⟩
  · exact sem_eq_zero_of_no_sems rfl _

/-- The kernel's array of results is the reference's. -/
theorem equal : Cert.algebraic_Kernel4Ideal_Reference4Ideal
    (hKernel4Ideal := Cert.Kernel4Ideal.Gen.facts)
    (hReference4Ideal := Cert.Reference4Ideal.Gen.facts) := by
  pair_intro
  · run_from Cert.Kernel4Ideal.Gen.run_main m g
  · hlo_run
    rw [Cert.Kernel4Ideal.Value.final]
    funext y
    pointwise [Cert.Kernel4Ideal.Value.prod]
    exact Fin.sum_fin_congr fun k => mul_comm _ _

end Cert.Dwg

end
-- ==== Proof.Dh.lean ====
module

public import proofs.«01_k».proof.Proof.Gen.Kernel5Ideal.Frame
public import Idealize.ShloMosaic.Lib.Pipeline.ValueKit
public import Idealize.ShloMosaic.Lib.Pointwise

/-! The gradient of the block's input: the cotangents times the transposed weights, added over four chunks. -/

@[expose] public section

set_option maxRecDepth 16384

noncomputable section

namespace Cert.Kernel5Ideal.Value

open Idealize.ShloMosaic Idealize.ShloMosaic.TcCoe Idealize.SL.Sem
open Cert.Kernel5Ideal Cert.Kernel5Ideal.Gen

variable (m : (ℓ : Loc nD τ sig) → Buf (Elt Ideal) ℓ)

/-- One chunk of the two products: the sum over the chunk's 1408 columns. -/
theorem pay (acc : Vec Ideal S1024x1024 .f32) (x0 : Vec Ideal S1024x1408 .bf16) (x1 : Vec Ideal S1x1024x1408 .bf16)
    (x2 : Vec Ideal S1024x1408 .bf16) (x3 : Vec Ideal S1x1024x1408 .bf16) (y : S1024x1024.Idx) :
    k0_pay2 (F := Ideal) acc x0 x1 x2 x3 y
      = (acc y + ∑ k : Fin 1408, ((x0 (ix2 (y 0) k) : EReal) * (x1 (ix3 0 (y 1) k) : EReal)
          + (x2 (ix2 (y 0) k) : EReal) * (x3 (ix3 0 (y 1) k) : EReal)) : EReal) := by
  pointwise [k0_pay2]
  rw [Finset.sum_add_distrib]

/-- The running sum starts at zero. -/
theorem zero (y : S1024x1024.Idx) : k0_pay1 (F := Ideal) y = (0 : EReal) := by
  pointwise [k0_pay1]

/-- What the array of results holds: the sum of the two products over all 5632 columns. -/
def prod (g : FVec Ideal S2048x5632 .f32) (wg : FVec Ideal S1x2048x5632 .f32) (u : FVec Ideal S2048x5632 .f32)
    (wu : FVec Ideal S1x2048x5632 .f32) : FVec Ideal S2048x2048 .f32 :=
  fun y => ((∑ k : Fin 5632, ((g (ix2 (y 0) k) : EReal) * (wg (ix3 0 (y 1) k) : EReal)
          + (u (ix2 (y 0) k) : EReal) * (wu (ix3 0 (y 1) k) : EReal)) : EReal))

/-- The block each window reads or writes at a point of the grid. -/
theorem idx : ∀ t : Fin cfg0.N, win0_0.index t = ![t.val / 4 % 2, t.val % 4]
    ∧ win0_1.index t = ![0, t.val / 8, t.val % 4]
    ∧ win0_2.index t = ![t.val / 4 % 2, t.val % 4]
    ∧ win0_3.index t = ![0, t.val / 8, t.val % 4]
    ∧ win0_4.index t = ![t.val / 4 % 2, t.val / 8] :=
  (by decide +kernel : ∀ t : Fin grid0.N, _)

/-- At the last of four chunks the stored block is the running sum. -/
theorem last (c : Dev nD) (t : Fin cfg0.N) (h : t.val % 4 = 3) :
    (outsAt0 m c t.val t.isLt).1 = (outsAt0 m c t.val t.isLt).2 := by
  rw [outsAt0_C m c t (by omega) h]
  frame_out

/-- After the run the array of results is the sum of the two products. -/
theorem final (c : Dev nD) : (dats m 0 c).arrAt 4 (cfgs 0).N
    = prod (m ((c : Thread nD τ).loc main_arg3)) (m ((c : Thread nD τ).loc main_arg1))
        (m ((c : Thread nD τ).loc main_arg4)) (m ((c : Thread nD τ).loc main_arg2)) := by
  refine (dats m 0 c).arrAt_eq_of_covers 4 _ (by decide +kernel) fun t hf y => ?_
  blk_simp
  rw [after0_4, last m c t ((flush0_4 t).mp hf),
    Pipeline.eq_sum_fin_of_reset_step_apply_of_flush (fun n h => (outsAt0 m c n h).2) 4 (fun _ => 0) _
      (fun t h j => by rw [outsAt0_A m c t h (by omega)]; frame_out; rw [pay, zero])
      (fun t h j => by
        by_cases h1 : t.val % 4 = 3
        · rw [outsAt0_C m c t h h1]; frame_out; rw [pay]; exact congrArg (fun z : EReal => z + _) (congrFun (Memref.IsWhole.read_unread _ _) j)
        · rw [outsAt0_B m c t h h1]; frame_out; rw [pay]; exact congrArg (fun z : EReal => z + _) (congrFun (Memref.IsWhole.read_unread _ _) j))
      t ((flush0_4 t).mp hf) _, zero_add]
  pointwise [prod]
  refine Fin.sum_mul_add_congr fun s k hl => ?_
  blk_point [iblk, V, idx t, idx ⟨_, Pipeline.run_point_lt_of_flush t ((flush0_4 t).mp hf) s⟩]

end Cert.Kernel5Ideal.Value

end
-- ==== Proof.DhEq.lean ====
module

public import proofs.«01_k».proof.Defs
public import proofs.«01_k».proof.Proof.Dh
public import proofs.«01_k».proof.Proof.Gen.Reference5Ideal
public import Idealize.ShloMosaic.Lib.Claim
public import Idealize.ShloMosaic.Lib.Quiescent

/-! The gradient of the input: the kernel and the reference compute the same array. -/

@[expose] public section

set_option maxRecDepth 16384

noncomputable section

namespace Cert.Dh

open Idealize.ShloMosaic Idealize.SL.Sem

/-- The reference runs to the end and leaves its arguments as they were. -/
theorem frame : Cert.quiescent_Reference5Ideal (hReference5Ideal := Cert.Reference5Ideal.Gen.facts) := by
  intro m g _
  hlo_run
  · exact fun _ => ⟨trivial, trivial, trivial, trivial, trivial⟩
  · exact sem_eq_zero_of_no_sems rfl _

/-- The kernel's array of results is the reference's. -/
theorem equal : Cert.algebraic_Kernel5Ideal_Reference5Ideal
    (hKernel5Ideal := Cert.Kernel5Ideal.Gen.facts)
    (hReference5Ideal := Cert.Reference5Ideal.Gen.facts) := by
  pair_intro
  · run_from Cert.Kernel5Ideal.Gen.run_main m g
  · hlo_run
    rw [Cert.Kernel5Ideal.Value.final]
    funext y
    pointwise [Cert.Kernel5Ideal.Value.prod]
    show (_ : EReal) = _
    rw [Finset.sum_add_distrib, add_comm]

end Cert.Dh

end
-- ==== Proof.SsdDwout.lean ====
module

public import proofs.«01_k».proof.Proof.Gen.Kernel6Ideal.Frame
public import Idealize.ShloMosaic.Lib.Pipeline.ValueKit
public import Idealize.ShloMosaic.Lib.Pointwise

/-! The gradient of the scan mixer's output weight. -/

@[expose] public section

set_option maxRecDepth 16384

noncomputable section

namespace Cert.Kernel6Ideal.Value

open Idealize.ShloMosaic Idealize.ShloMosaic.TcCoe Idealize.SL.Sem
open Cert.Kernel6Ideal Cert.Kernel6Ideal.Gen

variable (m : (ℓ : Loc nD τ sig) → Buf (Elt Ideal) ℓ)

/-- What the array of results holds: the product of the transposed first array and the second. -/
def prod (x : FVec Ideal S2048x4096 .f32) (d : FVec Ideal S2048x2048 .f32) : FVec Ideal S4096x2048 .bf16 :=
  fun y => (∑ k : Fin 2048, (x (ix2 k (y 0)) : EReal) * (d (ix2 k (y 1)) : EReal) : EReal)

/-- The block each window reads or writes at a point of the grid. -/
theorem idx : ∀ t : Fin cfg0.N, win0_0.index t = ![0, t.val % 4]
    ∧ win0_1.index t = ![0, t.val / 4]
    ∧ win0_2.index t = ![t.val % 4, t.val / 4] :=
  (by decide +kernel : ∀ t : Fin grid0.N, _)

/-- What the body stores at a point is the block of that array there. -/
theorem point (c : Dev nD) (t : Fin cfg0.N) (y) :
    k0_pay1 (iblk m c 0 t) (iblk m c 1 t) y
      = prod (m ((c : Thread nD τ).loc main_arg0)) (m ((c : Thread nD τ).loc main_arg2))
          (((cfg0.win 2).blk t).view.emb y) := by
  pointwise [k0_pay1, prod]
  blk_point [iblk, V, idx t]

/-- After the run the array of results holds it. -/
theorem final (c : Dev nD) : (dats m 0 c).arrAt 2 (cfgs 0).N
    = prod (m ((c : Thread nD τ).loc main_arg0)) (m ((c : Thread nD τ).loc main_arg2)) := by
  refine (dats m 0 c).arrAt_eq_of_covers 2 _ (by decide +kernel) fun t hf y => ?_
  blk_simp; rw [after0_2]; frame_out
  exact point m c t y

end Cert.Kernel6Ideal.Value

end
-- ==== Proof.SsdDwoutEq.lean ====
module

public import proofs.«01_k».proof.Defs
public import proofs.«01_k».proof.Proof.SsdDwout
public import proofs.«01_k».proof.Proof.Gen.Reference6Ideal
public import Idealize.ShloMosaic.Lib.Claim
public import Idealize.ShloMosaic.Lib.Quiescent

/-! The gradient of the scan mixer's output weight: the kernel and the reference compute the same array. -/

@[expose] public section

set_option maxRecDepth 16384

noncomputable section

namespace Cert.SsdDwout

open Idealize.ShloMosaic Idealize.SL.Sem

/-- The reference runs to the end and leaves its arguments as they were. -/
theorem frame : Cert.quiescent_Reference6Ideal (hReference6Ideal := Cert.Reference6Ideal.Gen.facts) := by
  intro m g _
  hlo_run
  · exact fun _ => ⟨trivial, trivial, trivial⟩
  · exact sem_eq_zero_of_no_sems rfl _

/-- The kernel's array of results is the reference's. -/
theorem equal : Cert.algebraic_Kernel6Ideal_Reference6Ideal
    (hKernel6Ideal := Cert.Kernel6Ideal.Gen.facts)
    (hReference6Ideal := Cert.Reference6Ideal.Gen.facts) := by
  pair_intro
  · run_from Cert.Kernel6Ideal.Gen.run_main m g
  · hlo_run
    rw [Cert.Kernel6Ideal.Value.final]
    funext y
    pointwise [Cert.Kernel6Ideal.Value.prod]
    exact Fin.sum_fin_congr fun k => mul_comm _ _

end Cert.SsdDwout

end
-- ==== Proof.SsdDyn.lean ====
module

public import proofs.«01_k».proof.Proof.Gen.Kernel7Ideal.Frame
public import Idealize.ShloMosaic.Lib.Pipeline.ValueKit
public import Idealize.ShloMosaic.Lib.Pointwise

/-! The gradient of the scan mixer's gated output. -/

@[expose] public section

set_option maxRecDepth 16384

noncomputable section

namespace Cert.Kernel7Ideal.Value

open Idealize.ShloMosaic Idealize.ShloMosaic.TcCoe Idealize.SL.Sem
open Cert.Kernel7Ideal Cert.Kernel7Ideal.Gen

variable (m : (ℓ : Loc nD τ sig) → Buf (Elt Ideal) ℓ)

/-- What the array of results holds: the product of the cotangent and the transposed weight. -/
def prod (w : FVec Ideal S1x4096x2048 .f32) (d : FVec Ideal S2048x2048 .f32) : FVec Ideal S2048x4096 .f32 :=
  fun y => (∑ k : Fin 2048, (d (ix2 (y 0) k) : EReal) * (w (ix3 0 (y 1) k) : EReal) : EReal)

/-- The block each window reads or writes at a point of the grid. -/
theorem idx : ∀ t : Fin cfg0.N, win0_0.index t = ![t.val % 2, 0]
    ∧ win0_1.index t = ![0, t.val / 2, 0]
    ∧ win0_2.index t = ![t.val % 2, t.val / 2] :=
  (by decide +kernel : ∀ t : Fin grid0.N, _)

/-- What the body stores at a point is the block of that array there. -/
theorem point (c : Dev nD) (t : Fin cfg0.N) (y) :
    k0_pay1 (iblk m c 0 t) (iblk m c 1 t) y
      = prod (m ((c : Thread nD τ).loc main_arg1)) (m ((c : Thread nD τ).loc main_arg2))
          (((cfg0.win 2).blk t).view.emb y) := by
  pointwise [k0_pay1, prod]
  blk_point [iblk, V, idx t]

/-- After the run the array of results holds it. -/
theorem final (c : Dev nD) : (dats m 0 c).arrAt 2 (cfgs 0).N
    = prod (m ((c : Thread nD τ).loc main_arg1)) (m ((c : Thread nD τ).loc main_arg2)) := by
  refine (dats m 0 c).arrAt_eq_of_covers 2 _ (by decide +kernel) fun t hf y => ?_
  blk_simp; rw [after0_2]; frame_out
  exact point m c t y

end Cert.Kernel7Ideal.Value

end
-- ==== Proof.SsdDynEq.lean ====
module

public import proofs.«01_k».proof.Defs
public import proofs.«01_k».proof.Proof.SsdDyn
public import proofs.«01_k».proof.Proof.Gen.Reference7Ideal
public import Idealize.ShloMosaic.Lib.Claim
public import Idealize.ShloMosaic.Lib.Quiescent

/-! The gradient of the scan mixer's gated output: the kernel and the reference compute the same array. -/

@[expose] public section

set_option maxRecDepth 16384

noncomputable section

namespace Cert.SsdDyn

open Idealize.ShloMosaic Idealize.SL.Sem

/-- The reference runs to the end and leaves its arguments as they were. -/
theorem frame : Cert.quiescent_Reference7Ideal (hReference7Ideal := Cert.Reference7Ideal.Gen.facts) := by
  intro m g _
  hlo_run
  · exact fun _ => ⟨trivial, trivial, trivial⟩
  · exact sem_eq_zero_of_no_sems rfl _

/-- The kernel's array of results is the reference's. -/
theorem equal : Cert.algebraic_Kernel7Ideal_Reference7Ideal
    (hKernel7Ideal := Cert.Kernel7Ideal.Gen.facts)
    (hReference7Ideal := Cert.Reference7Ideal.Gen.facts) := by
  pair_intro
  · run_from Cert.Kernel7Ideal.Gen.run_main m g
  · hlo_run
    rw [Cert.Kernel7Ideal.Value.final]
    funext y
    pointwise [Cert.Kernel7Ideal.Value.prod]

end Cert.SsdDyn

end
-- ==== Proof.SsdDwin.lean ====
module

public import proofs.«01_k».proof.Proof.Gen.Kernel8Ideal.Frame
public import Idealize.ShloMosaic.Lib.Pipeline.ValueKit
public import Idealize.ShloMosaic.Lib.Pointwise

/-! The gradient of the scan mixer's input weight. -/

@[expose] public section

set_option maxRecDepth 16384

noncomputable section

namespace Cert.Kernel8Ideal.Value

open Idealize.ShloMosaic Idealize.ShloMosaic.TcCoe Idealize.SL.Sem
open Cert.Kernel8Ideal Cert.Kernel8Ideal.Gen

variable (m : (ℓ : Loc nD τ sig) → Buf (Elt Ideal) ℓ)

/-- What the array of results holds: the product of the transposed cotangent and the input. -/
def prod (x : FVec Ideal S2048x2048 .f32) (d : FVec Ideal S2048x10368 .f32) : FVec Ideal S10368x2048 .bf16 :=
  fun y => (∑ k : Fin 2048, (d (ix2 k (y 0)) : EReal) * (x (ix2 k (y 1)) : EReal) : EReal)

/-- The block each window reads or writes at a point of the grid. -/
theorem idx : ∀ t : Fin cfg0.N, win0_0.index t = ![0, t.val % 9]
    ∧ win0_1.index t = ![0, t.val / 9]
    ∧ win0_2.index t = ![t.val % 9, t.val / 9] :=
  (by decide +kernel : ∀ t : Fin grid0.N, _)

/-- What the body stores at a point is the block of that array there. -/
theorem point (c : Dev nD) (t : Fin cfg0.N) (y) :
    k0_pay1 (iblk m c 0 t) (iblk m c 1 t) y
      = prod (m ((c : Thread nD τ).loc main_arg0)) (m ((c : Thread nD τ).loc main_arg2))
          (((cfg0.win 2).blk t).view.emb y) := by
  pointwise [k0_pay1, prod]
  blk_point [iblk, V, idx t]

/-- After the run the array of results holds it. -/
theorem final (c : Dev nD) : (dats m 0 c).arrAt 2 (cfgs 0).N
    = prod (m ((c : Thread nD τ).loc main_arg0)) (m ((c : Thread nD τ).loc main_arg2)) := by
  refine (dats m 0 c).arrAt_eq_of_covers 2 _ (by decide +kernel) fun t hf y => ?_
  blk_simp; rw [after0_2]; frame_out
  exact point m c t y

end Cert.Kernel8Ideal.Value

end
-- ==== Proof.SsdDwinEq.lean ====
module

public import proofs.«01_k».proof.Defs
public import proofs.«01_k».proof.Proof.SsdDwin
public import proofs.«01_k».proof.Proof.Gen.Reference8Ideal
public import Idealize.ShloMosaic.Lib.Claim
public import Idealize.ShloMosaic.Lib.Quiescent

/-! The gradient of the scan mixer's input weight: the kernel and the reference compute the same array. -/

@[expose] public section

set_option maxRecDepth 16384

noncomputable section

namespace Cert.SsdDwin

open Idealize.ShloMosaic Idealize.SL.Sem

/-- The reference runs to the end and leaves its arguments as they were. -/
theorem frame : Cert.quiescent_Reference8Ideal (hReference8Ideal := Cert.Reference8Ideal.Gen.facts) := by
  intro m g _
  hlo_run
  · exact fun _ => ⟨trivial, trivial, trivial⟩
  · exact sem_eq_zero_of_no_sems rfl _

/-- The kernel's array of results is the reference's. -/
theorem equal : Cert.algebraic_Kernel8Ideal_Reference8Ideal
    (hKernel8Ideal := Cert.Kernel8Ideal.Gen.facts)
    (hReference8Ideal := Cert.Reference8Ideal.Gen.facts) := by
  pair_intro
  · run_from Cert.Kernel8Ideal.Gen.run_main m g
  · hlo_run
    rw [Cert.Kernel8Ideal.Value.final]
    funext y
    pointwise [Cert.Kernel8Ideal.Value.prod]

end Cert.SsdDwin

end
-- ==== Proof.SsdDhn.lean ====
module

public import proofs.«01_k».proof.Proof.Gen.Kernel9Ideal.Frame
public import Idealize.ShloMosaic.Lib.Pipeline.ValueKit
public import Idealize.ShloMosaic.Lib.Pointwise

/-! The gradient of the scan mixer's normalised input, added over nine chunks. -/

@[expose] public section

set_option maxRecDepth 16384

noncomputable section

namespace Cert.Kernel9Ideal.Value

open Idealize.ShloMosaic Idealize.ShloMosaic.TcCoe Idealize.SL.Sem
open Cert.Kernel9Ideal Cert.Kernel9Ideal.Gen

variable (m : (ℓ : Loc nD τ sig) → Buf (Elt Ideal) ℓ)

/-- One chunk of the product: the sum over the chunk's 1152 columns. -/
theorem pay (acc : Vec Ideal S1024x1024 .f32) (x0 : Vec Ideal S1024x1152 .bf16) (x1 : Vec Ideal S1x1152x1024 .bf16)
    (y : S1024x1024.Idx) : k0_pay2 (F := Ideal) acc x0 x1 y
      = (acc y + ∑ k : Fin 1152, (x0 (ix2 (y 0) k) : EReal) * (x1 (ix3 0 k (y 1)) : EReal) : EReal) := by
  pointwise [k0_pay2]

/-- The running sum starts at zero. -/
theorem zero (y : S1024x1024.Idx) : k0_pay1 (F := Ideal) y = (0 : EReal) := by
  pointwise [k0_pay1]

/-- What the array of results holds: the product of the cotangent and the transposed weight. -/
def prod (w : FVec Ideal S1x2048x10368 .f32) (d : FVec Ideal S2048x10368 .f32) : FVec Ideal S2048x2048 .f32 :=
  fun y => (∑ k : Fin 10368, (d (ix2 (y 0) k) : EReal) * (w (ix3 0 (y 1) k) : EReal) : EReal)

/-- The block each window reads or writes at a point of the grid. -/
theorem idx : ∀ t : Fin cfg0.N, win0_0.index t = ![t.val / 9 % 2, t.val % 9]
    ∧ win0_1.index t = ![0, t.val % 9, t.val / 18]
    ∧ win0_2.index t = ![t.val / 9 % 2, t.val / 18] :=
  (by decide +kernel : ∀ t : Fin grid0.N, _)

/-- At the last of 9 chunks the stored block is the running sum. -/
theorem last (c : Dev nD) (t : Fin cfg0.N) (h : t.val % 9 = 8) :
    (outsAt0 m c t.val t.isLt).1 = (outsAt0 m c t.val t.isLt).2 := by
  rw [outsAt0_C m c t (by omega) h]
  frame_out

/-- After the run the array of results holds it. -/
theorem final (c : Dev nD) : (dats m 0 c).arrAt 2 (cfgs 0).N
    = prod (m ((c : Thread nD τ).loc main_arg1)) (m ((c : Thread nD τ).loc main_arg2)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 9 (fun _ => 0) _
      (fun t h j => by rw [outsAt0_A m c t h (by omega)]; frame_out; rw [pay, zero])
      (fun t h j => by
        by_cases h1 : t.val % 9 = 8
        · rw [outsAt0_C m c t h h1]; frame_out; rw [pay]; exact congrArg (fun z : EReal => z + _) (congrFun (Memref.IsWhole.read_unread _ _) j)
        · rw [outsAt0_B m c t h h1]; frame_out; rw [pay]; exact congrArg (fun z : EReal => z + _) (congrFun (Memref.IsWhole.read_unread _ _) j))
      t ((flush0_2 t).mp hf) _, zero_add]
  pointwise [prod]
  refine Fin.sum_mul_add_congr fun s k hl => ?_
  blk_point [iblk, V, idx t, idx ⟨_, Pipeline.run_point_lt_of_flush t ((flush0_2 t).mp hf) s⟩]

end Cert.Kernel9Ideal.Value

end
-- ==== Proof.SsdDhnEq.lean ====
module

public import proofs.«01_k».proof.Defs
public import proofs.«01_k».proof.Proof.SsdDhn
public import proofs.«01_k».proof.Proof.Gen.Reference9Ideal
public import Idealize.ShloMosaic.Lib.Claim
public import Idealize.ShloMosaic.Lib.Quiescent

/-! The gradient of the scan mixer's normalised input, added over nine chunks: the kernel and the reference compute the same array. -/

@[expose] public section

set_option maxRecDepth 16384

noncomputable section

namespace Cert.SsdDhn

open Idealize.ShloMosaic Idealize.SL.Sem

/-- The reference runs to the end and leaves its arguments as they were. -/
theorem frame : Cert.quiescent_Reference9Ideal (hReference9Ideal := Cert.Reference9Ideal.Gen.facts) := by
  intro m g _
  hlo_run
  · exact fun _ => ⟨trivial, trivial, trivial⟩
  · exact sem_eq_zero_of_no_sems rfl _

/-- The kernel's array of results is the reference's. -/
theorem equal : Cert.algebraic_Kernel9Ideal_Reference9Ideal
    (hKernel9Ideal := Cert.Kernel9Ideal.Gen.facts)
    (hReference9Ideal := Cert.Reference9Ideal.Gen.facts) := by
  pair_intro
  · run_from Cert.Kernel9Ideal.Gen.run_main m g
  · hlo_run
    rw [Cert.Kernel9Ideal.Value.final]
    funext y
    pointwise [Cert.Kernel9Ideal.Value.prod]

end Cert.SsdDhn

end
-- ==== Proof.PoolDw.lean ====
module

public import proofs.«01_k».proof.Proof.Gen.Kernel10Ideal.Frame
public import Idealize.ShloMosaic.Lib.Pipeline.ValueKit
public import Idealize.ShloMosaic.Lib.Pointwise

/-! The gradient of the pooling mixer's output weight. -/

@[expose] public section

set_option maxRecDepth 16384

noncomputable section

namespace Cert.Kernel10Ideal.Value

open Idealize.ShloMosaic Idealize.ShloMosaic.TcCoe Idealize.SL.Sem
open Cert.Kernel10Ideal Cert.Kernel10Ideal.Gen

variable (m : (ℓ : Loc nD τ sig) → Buf (Elt Ideal) ℓ)

/-- What the array of results holds: the product of the transposed first array and the second. -/
def prod (x : FVec Ideal S2048x2048 .f32) (d : FVec Ideal S2048x2048 .f32) : FVec Ideal S2048x2048 .bf16 :=
  fun y => (∑ k : Fin 2048, (x (ix2 k (y 0)) : EReal) * (d (ix2 k (y 1)) : EReal) : EReal)

/-- The block each window reads or writes at a point of the grid. -/
theorem idx : ∀ t : Fin cfg0.N, win0_0.index t = ![0, t.val % 2]
    ∧ win0_1.index t = ![0, t.val / 2]
    ∧ win0_2.index t = ![t.val % 2, t.val / 2] :=
  (by decide +kernel : ∀ t : Fin grid0.N, _)

/-- What the body stores at a point is the block of that array there. -/
theorem point (c : Dev nD) (t : Fin cfg0.N) (y) :
    k0_pay1 (iblk m c 0 t) (iblk m c 1 t) y
      = prod (m ((c : Thread nD τ).loc main_arg0)) (m ((c : Thread nD τ).loc main_arg2))
          (((cfg0.win 2).blk t).view.emb y) := by
  pointwise [k0_pay1, prod]
  blk_point [iblk, V, idx t]

/-- After the run the array of results holds it. -/
theorem final (c : Dev nD) : (dats m 0 c).arrAt 2 (cfgs 0).N
    = prod (m ((c : Thread nD τ).loc main_arg0)) (m ((c : Thread nD τ).loc main_arg2)) := by
  refine (dats m 0 c).arrAt_eq_of_covers 2 _ (by decide +kernel) fun t hf y => ?_
  blk_simp; rw [after0_2]; frame_out
  exact point m c t y

end Cert.Kernel10Ideal.Value

end
-- ==== Proof.PoolDwEq.lean ====
module

public import proofs.«01_k».proof.Defs
public import proofs.«01_k».proof.Proof.PoolDw
public import proofs.«01_k».proof.Proof.Gen.Reference10Ideal
public import Idealize.ShloMosaic.Lib.Claim
public import Idealize.ShloMosaic.Lib.Quiescent

/-! The gradient of the pooling mixer's output weight: the kernel and the reference compute the same array. -/

@[expose] public section

set_option maxRecDepth 16384

noncomputable section

namespace Cert.PoolDw

open Idealize.ShloMosaic Idealize.SL.Sem

/-- The reference runs to the end and leaves its arguments as they were. -/
theorem frame : Cert.quiescent_Reference10Ideal (hReference10Ideal := Cert.Reference10Ideal.Gen.facts) := by
  intro m g _
  hlo_run
  · exact fun _ => ⟨trivial, trivial, trivial⟩
  · exact sem_eq_zero_of_no_sems rfl _

/-- The kernel's array of results is the reference's. -/
theorem equal : Cert.algebraic_Kernel10Ideal_Reference10Ideal
    (hKernel10Ideal := Cert.Kernel10Ideal.Gen.facts)
    (hReference10Ideal := Cert.Reference10Ideal.Gen.facts) := by
  pair_intro
  · run_from Cert.Kernel10Ideal.Gen.run_main m g
  · hlo_run
    rw [Cert.Kernel10Ideal.Value.final]
    funext y
    pointwise [Cert.Kernel10Ideal.Value.prod]
    exact Fin.sum_fin_congr fun k => mul_comm _ _

end Cert.PoolDw

end
-- ==== Proof.PoolDvs.lean ====
module

public import proofs.«01_k».proof.Proof.Gen.Kernel11Ideal.Frame
public import Idealize.ShloMosaic.Lib.Pipeline.ValueKit
public import Idealize.ShloMosaic.Lib.Pointwise

/-! The gradient of the pooling mixer's scaled values. -/

@[expose] public section

set_option maxRecDepth 16384

noncomputable section

namespace Cert.Kernel11Ideal.Value

open Idealize.ShloMosaic Idealize.ShloMosaic.TcCoe Idealize.SL.Sem
open Cert.Kernel11Ideal Cert.Kernel11Ideal.Gen

variable (m : (ℓ : Loc nD τ sig) → Buf (Elt Ideal) ℓ)

/-- What the array of results holds: the product of the cotangent and the transposed weight. -/
def prod (w : FVec Ideal S1x2048x2048 .f32) (d : FVec Ideal S2048x2048 .f32) : FVec Ideal S2048x2048 .f32 :=
  fun y => (∑ k : Fin 2048, (d (ix2 (y 0) k) : EReal) * (w (ix3 0 (y 1) k) : EReal) : EReal)

/-- The block each window reads or writes at a point of the grid. -/
theorem idx : ∀ t : Fin cfg0.N, win0_0.index t = ![t.val % 2, 0]
    ∧ win0_1.index t = ![0, t.val / 2, 0]
    ∧ win0_2.index t = ![t.val % 2, t.val / 2] :=
  (by decide +kernel : ∀ t : Fin grid0.N, _)

/-- What the body stores at a point is the block of that array there. -/
theorem point (c : Dev nD) (t : Fin cfg0.N) (y) :
    k0_pay1 (iblk m c 0 t) (iblk m c 1 t) y
      = prod (m ((c : Thread nD τ).loc main_arg1)) (m ((c : Thread nD τ).loc main_arg2))
          (((cfg0.win 2).blk t).view.emb y) := by
  pointwise [k0_pay1, prod]
  blk_point [iblk, V, idx t]

/-- After the run the array of results holds it. -/
theorem final (c : Dev nD) : (dats m 0 c).arrAt 2 (cfgs 0).N
    = prod (m ((c : Thread nD τ).loc main_arg1)) (m ((c : Thread nD τ).loc main_arg2)) := by
  refine (dats m 0 c).arrAt_eq_of_covers 2 _ (by decide +kernel) fun t hf y => ?_
  blk_simp; rw [after0_2]; frame_out
  exact point m c t y

end Cert.Kernel11Ideal.Value

end
-- ==== Proof.PoolDvsEq.lean ====
module

public import proofs.«01_k».proof.Defs
public import proofs.«01_k».proof.Proof.PoolDvs
public import proofs.«01_k».proof.Proof.Gen.Reference11Ideal
public import Idealize.ShloMosaic.Lib.Claim
public import Idealize.ShloMosaic.Lib.Quiescent

/-! The gradient of the pooling mixer's scaled values: the kernel and the reference compute the same array. -/

@[expose] public section

set_option maxRecDepth 16384

noncomputable section

namespace Cert.PoolDvs

open Idealize.ShloMosaic Idealize.SL.Sem

/-- The reference runs to the end and leaves its arguments as they were. -/
theorem frame : Cert.quiescent_Reference11Ideal (hReference11Ideal := Cert.Reference11Ideal.Gen.facts) := by
  intro m g _
  hlo_run
  · exact fun _ => ⟨trivial, trivial, trivial⟩
  · exact sem_eq_zero_of_no_sems rfl _

/-- The kernel's array of results is the reference's. -/
theorem equal : Cert.algebraic_Kernel11Ideal_Reference11Ideal
    (hKernel11Ideal := Cert.Kernel11Ideal.Gen.facts)
    (hReference11Ideal := Cert.Reference11Ideal.Gen.facts) := by
  pair_intro
  · run_from Cert.Kernel11Ideal.Gen.run_main m g
  · hlo_run
    rw [Cert.Kernel11Ideal.Value.final]
    funext y
    pointwise [Cert.Kernel11Ideal.Value.prod]

end Cert.PoolDvs

end
-- ==== Proof.PoolDhn.lean ====
module

public import proofs.«01_k».proof.Proof.Gen.Kernel12Ideal.Frame
public import Idealize.ShloMosaic.Lib.Pipeline.ValueKit
public import Idealize.ShloMosaic.Lib.Pointwise

/-! The gradient of the pooling mixer's normalised input. -/

@[expose] public section

set_option maxRecDepth 16384

noncomputable section

namespace Cert.Kernel12Ideal.Value

open Idealize.ShloMosaic Idealize.ShloMosaic.TcCoe Idealize.SL.Sem
open Cert.Kernel12Ideal Cert.Kernel12Ideal.Gen

variable (m : (ℓ : Loc nD τ sig) → Buf (Elt Ideal) ℓ)

/-- What the array of results holds: the product of the cotangent and the transposed weight. -/
def prod (w : FVec Ideal S1x2048x2048 .f32) (d : FVec Ideal S2048x2048 .f32) : FVec Ideal S2048x2048 .f32 :=
  fun y => (∑ k : Fin 2048, (d (ix2 (y 0) k) : EReal) * (w (ix3 0 (y 1) k) : EReal) : EReal)

/-- The block each window reads or writes at a point of the grid. -/
theorem idx : ∀ t : Fin cfg0.N, win0_0.index t = ![t.val % 2, 0]
    ∧ win0_1.index t = ![0, t.val / 2, 0]
    ∧ win0_2.index t = ![t.val % 2, t.val / 2] :=
  (by decide +kernel : ∀ t : Fin grid0.N, _)

/-- What the body stores at a point is the block of that array there. -/
theorem point (c : Dev nD) (t : Fin cfg0.N) (y) :
    k0_pay1 (iblk m c 0 t) (iblk m c 1 t) y
      = prod (m ((c : Thread nD τ).loc main_arg1)) (m ((c : Thread nD τ).loc main_arg2))
          (((cfg0.win 2).blk t).view.emb y) := by
  pointwise [k0_pay1, prod]
  blk_point [iblk, V, idx t]

/-- After the run the array of results holds it. -/
theorem final (c : Dev nD) : (dats m 0 c).arrAt 2 (cfgs 0).N
    = prod (m ((c : Thread nD τ).loc main_arg1)) (m ((c : Thread nD τ).loc main_arg2)) := by
  refine (dats m 0 c).arrAt_eq_of_covers 2 _ (by decide +kernel) fun t hf y => ?_
  blk_simp; rw [after0_2]; frame_out
  exact point m c t y

end Cert.Kernel12Ideal.Value

end
-- ==== Proof.PoolDhnEq.lean ====
module

public import proofs.«01_k».proof.Defs
public import proofs.«01_k».proof.Proof.PoolDhn
public import proofs.«01_k».proof.Proof.Gen.Reference12Ideal
public import Idealize.ShloMosaic.Lib.Claim
public import Idealize.ShloMosaic.Lib.Quiescent

/-! The gradient of the pooling mixer's normalised input: the kernel and the reference compute the same array. -/

@[expose] public section

set_option maxRecDepth 16384

noncomputable section

namespace Cert.PoolDhn

open Idealize.ShloMosaic Idealize.SL.Sem

/-- The reference runs to the end and leaves its arguments as they were. -/
theorem frame : Cert.quiescent_Reference12Ideal (hReference12Ideal := Cert.Reference12Ideal.Gen.facts) := by
  intro m g _
  hlo_run
  · exact fun _ => ⟨trivial, trivial, trivial⟩
  · exact sem_eq_zero_of_no_sems rfl _

/-- The kernel's array of results is the reference's. -/
theorem equal : Cert.algebraic_Kernel12Ideal_Reference12Ideal
    (hKernel12Ideal := Cert.Kernel12Ideal.Gen.facts)
    (hReference12Ideal := Cert.Reference12Ideal.Gen.facts) := by
  pair_intro
  · run_from Cert.Kernel12Ideal.Gen.run_main m g
  · hlo_run
    rw [Cert.Kernel12Ideal.Value.final]
    funext y
    pointwise [Cert.Kernel12Ideal.Value.prod]

end Cert.PoolDhn

end
-- ==== Proof.FfnIn.lean ====
module

public import proofs.«01_k».proof.Proof.Gen.Kernel13Ideal.Frame
public import Idealize.ShloMosaic.Lib.Pipeline.ValueKit
public import Idealize.ShloMosaic.Lib.Pointwise

/-! The feed-forward block's two branches and their gated product. -/

@[expose] public section

set_option maxRecDepth 16384

noncomputable section

namespace Cert.Kernel13Ideal.Value

open Idealize.ShloMosaic Idealize.ShloMosaic.TcCoe Idealize.SL.Sem
open Cert.Kernel13Ideal Cert.Kernel13Ideal.Gen

variable (m : (ℓ : Loc nD τ sig) → Buf (Elt Ideal) ℓ)

/-- One branch: the product of the input and the branch's weight, an entry. -/
def dotp (x : FVec Ideal S2048x2048 .f32) (w : FVec Ideal S1x2048x5632 .f32) (i : Fin 2048) (j : Fin 5632) : EReal :=
  ∑ k : Fin 2048, (x (ix2 i k) : EReal) * (w (ix3 0 k j) : EReal)

/-- What the array of a branch holds: the product of the input and the branch's weight. -/
def prod (x : FVec Ideal S2048x2048 .f32) (w : FVec Ideal S1x2048x5632 .f32) : FVec Ideal S2048x5632 .bf16 :=
  fun y => dotp x w (y 0) (y 1)

/-- What the third array holds: the gate branch times its logistic function times the other branch. -/
def gated (x : FVec Ideal S2048x2048 .f32) (wg wu : FVec Ideal S1x2048x5632 .f32) : FVec Ideal S2048x5632 .bf16 :=
  fun y => (dotp x wg (y 0) (y 1) * Ideal.div 1 (1 + Ideal.exp (0 - dotp x wg (y 0) (y 1))) * dotp x wu (y 0) (y 1) : EReal)

/-- The block each window reads or writes at a point of the grid. -/
theorem idx : ∀ t : Fin cfg0.N, win0_0.index t = ![t.val % 4, 0]
    ∧ win0_1.index t = ![0, 0, t.val / 4]
    ∧ win0_2.index t = ![0, 0, t.val / 4]
    ∧ win0_3.index t = ![t.val % 4, t.val / 4]
    ∧ win0_4.index t = ![t.val % 4, t.val / 4]
    ∧ win0_5.index t = ![t.val % 4, t.val / 4] :=
  (by decide +kernel : ∀ t : Fin grid0.N, _)

/-- What the body stores of the gate branch at a point is the block of that array there. -/
theorem point3 (c : Dev nD) (t : Fin cfg0.N) (y) :
    k0_pay4 (iblk m c 0 t) (iblk m c 1 t) y
      = prod (m ((c : Thread nD τ).loc main_arg0)) (m ((c : Thread nD τ).loc main_arg1))
          (((cfg0.win 3).blk t).view.emb y) := by
  pointwise [k0_pay4, k0_pay2, k0_pay1, prod, dotp]
  blk_point [iblk, V, idx t]

/-- After the run the array of the gate branch holds it. -/
theorem final3 (c : Dev nD) : (dats m 0 c).arrAt 3 (cfgs 0).N
    = prod (m ((c : Thread nD τ).loc main_arg0)) (m ((c : Thread nD τ).loc main_arg1)) := by
  refine (dats m 0 c).arrAt_eq_of_covers 3 _ (by decide +kernel) fun t hf y => ?_
  blk_simp; rw [after0_3]; frame_out
  exact point3 m c t y

/-- What the body stores of the other branch at a point is the block of that array there. -/
theorem point4 (c : Dev nD) (t : Fin cfg0.N) (y) :
    k0_pay5 (iblk m c 0 t) (iblk m c 2 t) y
      = prod (m ((c : Thread nD τ).loc main_arg0)) (m ((c : Thread nD τ).loc main_arg2))
          (((cfg0.win 4).blk t).view.emb y) := by
  pointwise [k0_pay5, k0_pay3, k0_pay1, prod, dotp]
  blk_point [iblk, V, idx t]

/-- After the run the array of the other branch holds it. -/
theorem final4 (c : Dev nD) : (dats m 0 c).arrAt 4 (cfgs 0).N
    = prod (m ((c : Thread nD τ).loc main_arg0)) (m ((c : Thread nD τ).loc main_arg2)) := by
  refine (dats m 0 c).arrAt_eq_of_covers 4 _ (by decide +kernel) fun t hf y => ?_
  blk_simp; rw [after0_4]; frame_out
  exact point4 m c t y

/-- What the body stores of the gated product at a point is the block of that array there. -/
theorem point5 (c : Dev nD) (t : Fin cfg0.N) (y) :
    k0_pay6 (iblk m c 0 t) (iblk m c 1 t) (iblk m c 2 t) y
      = gated (m ((c : Thread nD τ).loc main_arg0)) (m ((c : Thread nD τ).loc main_arg1)) (m ((c : Thread nD τ).loc main_arg2))
          (((cfg0.win 5).blk t).view.emb y) := by
  pointwise [k0_pay6, k0_pay2, k0_pay3, k0_pay1, gated, dotp]
  blk_point [iblk, V, idx t]

/-- After the run the array of the gated product holds it. -/
theorem final5 (c : Dev nD) : (dats m 0 c).arrAt 5 (cfgs 0).N
    = gated (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point5 m c t y

end Cert.Kernel13Ideal.Value

end
-- ==== Proof.FfnInEq.lean ====
module

public import proofs.«01_k».proof.Defs
public import proofs.«01_k».proof.Proof.FfnIn
public import proofs.«01_k».proof.Proof.Gen.Reference13Ideal
public import Idealize.ShloMosaic.Lib.Claim
public import Idealize.ShloMosaic.Lib.Quiescent

/-! The feed-forward block's branches: the kernel and the reference compute the same arrays. -/

@[expose] public section

set_option maxRecDepth 16384

noncomputable section

namespace Cert.FfnIn

open Idealize.ShloMosaic Idealize.SL.Sem

/-- The reference runs to the end and leaves its arguments as they were. -/
theorem frame : Cert.quiescent_Reference13Ideal (hReference13Ideal := Cert.Reference13Ideal.Gen.facts) := by
  intro m g _
  hlo_run
  · exact fun _ => ⟨trivial, trivial, trivial⟩
  · exact sem_eq_zero_of_no_sems rfl _

/-- The kernel's array of results is the reference's. -/
theorem equal : Cert.algebraic_Kernel13Ideal_Reference13Ideal
    (hKernel13Ideal := Cert.Kernel13Ideal.Gen.facts)
    (hReference13Ideal := Cert.Reference13Ideal.Gen.facts) := by
  pair_intro
  · run_from Cert.Kernel13Ideal.Gen.run_main m g
  · hlo_run
    · rw [Cert.Kernel13Ideal.Value.final3]
      funext y
      pointwise [Cert.Kernel13Ideal.Value.prod, Cert.Kernel13Ideal.Value.dotp]
    · rw [Cert.Kernel13Ideal.Value.final4]
      funext y
      pointwise [Cert.Kernel13Ideal.Value.prod, Cert.Kernel13Ideal.Value.dotp]
    · rw [Cert.Kernel13Ideal.Value.final5]
      simp only [StableHlo.TRef.ofBuf_toBuf]
      simp only [StableHlo.TRef.ofBuf, StableHlo.TRef.toBuf, cast_eq]
      funext y
      pointwise [Cert.Kernel13Ideal.Value.gated, Cert.Kernel13Ideal.Value.dotp]
      show (_ : EReal) = _
      rw [zero_sub]

end Cert.FfnIn

end
-- ==== Proof.FfnOut.lean ====
module

public import proofs.«01_k».proof.Proof.Gen.Kernel14Ideal.Frame
public import Idealize.ShloMosaic.Lib.Pipeline.ValueKit
public import Idealize.ShloMosaic.Lib.Pointwise

/-! The feed-forward block's output added to its input, over four chunks. -/

@[expose] public section

set_option maxRecDepth 16384

noncomputable section

namespace Cert.Kernel14Ideal.Value

open Idealize.ShloMosaic Idealize.ShloMosaic.TcCoe Idealize.SL.Sem
open Cert.Kernel14Ideal Cert.Kernel14Ideal.Gen

variable (m : (ℓ : Loc nD τ sig) → Buf (Elt Ideal) ℓ)

/-- One chunk of the product: the sum over the chunk's 1408 columns. -/
theorem pay (acc : Vec Ideal S1024x1024 .f32) (x0 : Vec Ideal S1024x1408 .bf16) (x1 : Vec Ideal S1x1408x1024 .bf16)
    (y : S1024x1024.Idx) : k0_pay2 (F := Ideal) acc x0 x1 y
      = (acc y + ∑ k : Fin 1408, (x0 (ix2 (y 0) k) : EReal) * (x1 (ix3 0 k (y 1)) : EReal) : EReal) := by
  pointwise [k0_pay2]

/-- The running sum starts at zero. -/
theorem zero (y : S1024x1024.Idx) : k0_pay1 (F := Ideal) y = (0 : EReal) := by
  pointwise [k0_pay1]

/-- What the array of results holds: the input plus half the product of the hidden activations and the weight. -/
def prod (x : FVec Ideal S2048x2048 .f32) (a : FVec Ideal S2048x5632 .f32) (w : FVec Ideal S1x5632x2048 .f32) : FVec Ideal S2048x2048 .f32 :=
  fun y => ((x y : EReal) + (∑ k : Fin 5632, (a (ix2 (y 0) k) : EReal) * (w (ix3 0 k (y 1)) : EReal)) * Ideal.ofBits .f32 0x3F000000#32 : EReal)

/-- The block each window reads or writes at a point of the grid. -/
theorem idx : ∀ t : Fin cfg0.N, win0_0.index t = ![t.val / 4 % 2, t.val % 4]
    ∧ win0_1.index t = ![0, t.val % 4, t.val / 8]
    ∧ win0_2.index t = ![t.val / 4 % 2, t.val / 8]
    ∧ win0_3.index t = ![t.val / 4 % 2, t.val / 8] :=
  (by decide +kernel : ∀ t : Fin grid0.N, _)

/-- The last chunk adds the halved sum to the input. -/
theorem add (acc x : Vec Ideal S1024x1024 .f32) (y : S1024x1024.Idx) :
    k0_pay3 (F := Ideal) acc x y = (x y + ((acc y : EReal) * Ideal.ofBits .f32 0x3F000000#32) : EReal) := by
  pointwise [k0_pay3]

/-- At the last of 4 chunks the stored block is the input plus the halved running sum. -/
theorem last (c : Dev nD) (t : Fin cfg0.N) (h : t.val % 4 = 3) :
    (outsAt0 m c t.val t.isLt).1 = k0_pay3 (F := Ideal) (outsAt0 m c t.val t.isLt).2 (iblk m c 2 t) := by
  rw [outsAt0_C m c t (by omega) h]
  frame_out

/-- After the run the array of results holds it. -/
theorem final (c : Dev nD) : (dats m 0 c).arrAt 3 (cfgs 0).N
    = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, last m c t ((flush0_3 t).mp hf), add,
    Pipeline.eq_sum_fin_of_reset_step_apply_of_flush (fun n h => (outsAt0 m c n h).2) 4 (fun _ => 0) _
      (fun t h j => by rw [outsAt0_A m c t h (by omega)]; frame_out; rw [pay, zero])
      (fun t h j => by
        by_cases h1 : t.val % 4 = 3
        · rw [outsAt0_C m c t h h1]; frame_out; rw [pay]; exact congrArg (fun z : EReal => z + _) (congrFun (Memref.IsWhole.read_unread _ _) j)
        · rw [outsAt0_B m c t h h1]; frame_out; rw [pay]; exact congrArg (fun z : EReal => z + _) (congrFun (Memref.IsWhole.read_unread _ _) j))
      t ((flush0_3 t).mp hf) _, zero_add]
  pointwise [prod]
  show (_ : EReal) = _
  refine congrArg₂ (fun p q : EReal => p + q * _) ?_ (Fin.sum_mul_add_congr fun s k hl => ?_)
  · blk_point [iblk, V, idx t]
  · blk_point [iblk, V, idx t, idx ⟨_, Pipeline.run_point_lt_of_flush t ((flush0_3 t).mp hf) s⟩]

end Cert.Kernel14Ideal.Value

end
-- ==== Proof.FfnOutEq.lean ====
module

public import proofs.«01_k».proof.Defs
public import proofs.«01_k».proof.Proof.FfnOut
public import proofs.«01_k».proof.Proof.Gen.Reference14Ideal
public import Idealize.ShloMosaic.Lib.Claim
public import Idealize.ShloMosaic.Lib.Quiescent

/-! The feed-forward block's output added to its input, over four chunks: the kernel and the reference compute the same array. -/

@[expose] public section

set_option maxRecDepth 16384

noncomputable section

namespace Cert.FfnOut

open Idealize.ShloMosaic Idealize.SL.Sem

/-- The reference runs to the end and leaves its arguments as they were. -/
theorem frame : Cert.quiescent_Reference14Ideal (hReference14Ideal := Cert.Reference14Ideal.Gen.facts) := by
  intro m g _
  hlo_run
  · exact fun _ => ⟨trivial, trivial, trivial⟩
  · exact sem_eq_zero_of_no_sems rfl _

/-- The kernel's array of results is the reference's. -/
theorem equal : Cert.algebraic_Kernel14Ideal_Reference14Ideal
    (hKernel14Ideal := Cert.Kernel14Ideal.Gen.facts)
    (hReference14Ideal := Cert.Reference14Ideal.Gen.facts) := by
  pair_intro
  · run_from Cert.Kernel14Ideal.Gen.run_main m g
  · hlo_run
    rw [Cert.Kernel14Ideal.Value.final]
    funext y
    pointwise [Cert.Kernel14Ideal.Value.prod]
    show (_ : EReal) = _
    rw [mul_comm (Ideal.ofBits .f32 _)]

end Cert.FfnOut

end
-- ==== Proof.SsdProj.lean ====
module

public import proofs.«01_k».proof.Proof.Gen.Kernel15Ideal.Frame
public import Idealize.ShloMosaic.Lib.Pipeline.ValueKit
public import Idealize.ShloMosaic.Lib.Pointwise

/-! The scan mixer's projection. -/

@[expose] public section

set_option maxRecDepth 16384

noncomputable section

namespace Cert.Kernel15Ideal.Value

open Idealize.ShloMosaic Idealize.ShloMosaic.TcCoe Idealize.SL.Sem
open Cert.Kernel15Ideal Cert.Kernel15Ideal.Gen

variable (m : (ℓ : Loc nD τ sig) → Buf (Elt Ideal) ℓ)

/-- What the array of results holds: the product of the input and the weight. -/
def prod (x : FVec Ideal S2048x2048 .f32) (w : FVec Ideal S1x2048x10368 .f32) : FVec Ideal S2048x10368 .f32 :=
  fun y => (∑ k : Fin 2048, (x (ix2 (y 0) k) : EReal) * (w (ix3 0 k (y 1)) : EReal) : EReal)

/-- The block each window reads or writes at a point of the grid. -/
theorem idx : ∀ t : Fin cfg0.N, win0_0.index t = ![t.val % 2, 0]
    ∧ win0_1.index t = ![0, t.val / 2, 0]
    ∧ win0_2.index t = ![t.val % 2, t.val / 2] :=
  (by decide +kernel : ∀ t : Fin grid0.N, _)

/-- What the body stores at a point is the block of that array there. -/
theorem point (c : Dev nD) (t : Fin cfg0.N) (y) :
    k0_pay1 (iblk m c 0 t) (iblk m c 1 t) y
      = prod (m ((c : Thread nD τ).loc main_arg0)) (m ((c : Thread nD τ).loc main_arg1))
          (((cfg0.win 2).blk t).view.emb y) := by
  pointwise [k0_pay1, prod]
  blk_point [iblk, V, idx t]

/-- After the run the array of results holds it. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel15Ideal.Value

end
-- ==== Proof.SsdProjEq.lean ====
module

public import proofs.«01_k».proof.Defs
public import proofs.«01_k».proof.Proof.SsdProj
public import proofs.«01_k».proof.Proof.Gen.Reference15Ideal
public import Idealize.ShloMosaic.Lib.Claim
public import Idealize.ShloMosaic.Lib.Quiescent

/-! The scan mixer's projection: the kernel and the reference compute the same array. -/

@[expose] public section

set_option maxRecDepth 16384

noncomputable section

namespace Cert.SsdProj

open Idealize.ShloMosaic Idealize.SL.Sem

/-- The reference runs to the end and leaves its arguments as they were. -/
theorem frame : Cert.quiescent_Reference15Ideal (hReference15Ideal := Cert.Reference15Ideal.Gen.facts) := by
  intro m g _
  hlo_run
  · exact fun _ => ⟨trivial, trivial⟩
  · exact sem_eq_zero_of_no_sems rfl _

/-- The kernel's array of results is the reference's. -/
theorem equal : Cert.algebraic_Kernel15Ideal_Reference15Ideal
    (hKernel15Ideal := Cert.Kernel15Ideal.Gen.facts)
    (hReference15Ideal := Cert.Reference15Ideal.Gen.facts) := by
  pair_intro
  · run_from Cert.Kernel15Ideal.Gen.run_main m g
  · hlo_run
    rw [Cert.Kernel15Ideal.Value.final]
    funext y
    pointwise [Cert.Kernel15Ideal.Value.prod]

end Cert.SsdProj

end
-- ==== Proof.SsdOut.lean ====
module

public import proofs.«01_k».proof.Proof.Gen.Kernel16Ideal.Frame
public import Idealize.ShloMosaic.Lib.Pipeline.ValueKit
public import Idealize.ShloMosaic.Lib.Pointwise

/-! The scan mixer's output added to its input, over two chunks. -/

@[expose] public section

set_option maxRecDepth 16384

noncomputable section

namespace Cert.Kernel16Ideal.Value

open Idealize.ShloMosaic Idealize.ShloMosaic.TcCoe Idealize.SL.Sem
open Cert.Kernel16Ideal Cert.Kernel16Ideal.Gen

variable (m : (ℓ : Loc nD τ sig) → Buf (Elt Ideal) ℓ)

/-- One chunk of the product: the sum over the chunk's 2048 columns. -/
theorem pay (acc : Vec Ideal S1024x1024 .f32) (x0 : Vec Ideal S1024x2048 .bf16) (x1 : Vec Ideal S1x2048x1024 .bf16)
    (y : S1024x1024.Idx) : k0_pay2 (F := Ideal) acc x0 x1 y
      = (acc y + ∑ k : Fin 2048, (x0 (ix2 (y 0) k) : EReal) * (x1 (ix3 0 k (y 1)) : EReal) : EReal) := by
  pointwise [k0_pay2]

/-- The running sum starts at zero. -/
theorem zero (y : S1024x1024.Idx) : k0_pay1 (F := Ideal) y = (0 : EReal) := by
  pointwise [k0_pay1]

/-- What the array of results holds: the input plus the product of the gated output and the weight. -/
def prod (x : FVec Ideal S2048x2048 .f32) (v : FVec Ideal S2048x4096 .f32) (w : FVec Ideal S1x4096x2048 .f32) : FVec Ideal S2048x2048 .f32 :=
  fun y => ((x y : EReal) + ∑ k : Fin 4096, (v (ix2 (y 0) k) : EReal) * (w (ix3 0 k (y 1)) : EReal) : EReal)

/-- The block each window reads or writes at a point of the grid. -/
theorem idx : ∀ t : Fin cfg0.N, win0_0.index t = ![t.val / 2 % 2, t.val % 2]
    ∧ win0_1.index t = ![0, t.val % 2, t.val / 4]
    ∧ win0_2.index t = ![t.val / 2 % 2, t.val / 4]
    ∧ win0_3.index t = ![t.val / 2 % 2, t.val / 4] :=
  (by decide +kernel : ∀ t : Fin grid0.N, _)

/-- The last chunk adds the sum to the input. -/
theorem add (acc x : Vec Ideal S1024x1024 .f32) (y : S1024x1024.Idx) :
    k0_pay3 (F := Ideal) acc x y = (x y + acc y : EReal) := by
  pointwise [k0_pay3]

/-- At the last of 2 chunks the stored block is the input plus the running sum. -/
theorem last (c : Dev nD) (t : Fin cfg0.N) (h : t.val % 2 = 1) :
    (outsAt0 m c t.val t.isLt).1 = k0_pay3 (F := Ideal) (outsAt0 m c t.val t.isLt).2 (iblk m c 2 t) := by
  rw [outsAt0_B m c t (by omega) h]
  frame_out

/-- After the run the array of results holds it. -/
theorem final (c : Dev nD) : (dats m 0 c).arrAt 3 (cfgs 0).N
    = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, last m c t ((flush0_3 t).mp hf), add,
    Pipeline.eq_sum_fin_of_reset_step_apply_of_flush (fun n h => (outsAt0 m c n h).2) 2 (fun _ => 0) _
      (fun t h j => by rw [outsAt0_A m c t h (by omega)]; frame_out; rw [pay, zero])
      (fun t h j => by
        rw [outsAt0_B m c t h (by omega)]; frame_out; rw [pay]; exact congrArg (fun z : EReal => z + _) (congrFun (Memref.IsWhole.read_unread _ _) j))
      t ((flush0_3 t).mp hf) _, zero_add]
  pointwise [prod]
  show (_ : EReal) = _
  refine congrArg₂ (fun p q : EReal => p + q) ?_ (Fin.sum_mul_add_congr fun s k hl => ?_)
  · blk_point [iblk, V, idx t]
  · blk_point [iblk, V, idx t, idx ⟨_, Pipeline.run_point_lt_of_flush t ((flush0_3 t).mp hf) s⟩]

end Cert.Kernel16Ideal.Value

end
-- ==== Proof.SsdOutEq.lean ====
module

public import proofs.«01_k».proof.Defs
public import proofs.«01_k».proof.Proof.SsdOut
public import proofs.«01_k».proof.Proof.Gen.Reference16Ideal
public import Idealize.ShloMosaic.Lib.Claim
public import Idealize.ShloMosaic.Lib.Quiescent

/-! The scan mixer's output added to its input, over two chunks: the kernel and the reference compute the same array. -/

@[expose] public section

set_option maxRecDepth 16384

noncomputable section

namespace Cert.SsdOut

open Idealize.ShloMosaic Idealize.SL.Sem

/-- The reference runs to the end and leaves its arguments as they were. -/
theorem frame : Cert.quiescent_Reference16Ideal (hReference16Ideal := Cert.Reference16Ideal.Gen.facts) := by
  intro m g _
  hlo_run
  · exact fun _ => ⟨trivial, trivial, trivial⟩
  · exact sem_eq_zero_of_no_sems rfl _

/-- The kernel's array of results is the reference's. -/
theorem equal : Cert.algebraic_Kernel16Ideal_Reference16Ideal
    (hKernel16Ideal := Cert.Kernel16Ideal.Gen.facts)
    (hReference16Ideal := Cert.Reference16Ideal.Gen.facts) := by
  pair_intro
  · run_from Cert.Kernel16Ideal.Gen.run_main m g
  · hlo_run
    rw [Cert.Kernel16Ideal.Value.final]
    funext y
    pointwise [Cert.Kernel16Ideal.Value.prod]

end Cert.SsdOut

end
-- ==== Proof.PoolU.lean ====
module

public import proofs.«01_k».proof.Proof.Gen.Kernel17Ideal.Frame
public import Idealize.ShloMosaic.Lib.Pipeline.ValueKit
public import Idealize.ShloMosaic.Lib.Pointwise

/-! The pooling mixer's projection. -/

@[expose] public section

set_option maxRecDepth 16384

noncomputable section

namespace Cert.Kernel17Ideal.Value

open Idealize.ShloMosaic Idealize.ShloMosaic.TcCoe Idealize.SL.Sem
open Cert.Kernel17Ideal Cert.Kernel17Ideal.Gen

variable (m : (ℓ : Loc nD τ sig) → Buf (Elt Ideal) ℓ)

/-- What the array of results holds: the product of the input and the weight. -/
def prod (x : FVec Ideal S2048x2048 .f32) (w : FVec Ideal S1x2048x2048 .f32) : FVec Ideal S2048x2048 .f32 :=
  fun y => (∑ k : Fin 2048, (x (ix2 (y 0) k) : EReal) * (w (ix3 0 k (y 1)) : EReal) : EReal)

/-- The block each window reads or writes at a point of the grid. -/
theorem idx : ∀ t : Fin cfg0.N, win0_0.index t = ![t.val % 2, 0]
    ∧ win0_1.index t = ![0, 0, t.val / 2]
    ∧ win0_2.index t = ![t.val % 2, t.val / 2] :=
  (by decide +kernel : ∀ t : Fin grid0.N, _)

/-- What the body stores at a point is the block of that array there. -/
theorem point (c : Dev nD) (t : Fin cfg0.N) (y) :
    k0_pay1 (iblk m c 0 t) (iblk m c 1 t) y
      = prod (m ((c : Thread nD τ).loc main_arg0)) (m ((c : Thread nD τ).loc main_arg1))
          (((cfg0.win 2).blk t).view.emb y) := by
  pointwise [k0_pay1, prod]
  blk_point [iblk, V, idx t]

/-- After the run the array of results holds it. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel17Ideal.Value

end
-- ==== Proof.PoolUEq.lean ====
module

public import proofs.«01_k».proof.Defs
public import proofs.«01_k».proof.Proof.PoolU
public import proofs.«01_k».proof.Proof.Gen.Reference17Ideal
public import Idealize.ShloMosaic.Lib.Claim
public import Idealize.ShloMosaic.Lib.Quiescent

/-! The pooling mixer's projection: the kernel and the reference compute the same array. -/

@[expose] public section

set_option maxRecDepth 16384

noncomputable section

namespace Cert.PoolU

open Idealize.ShloMosaic Idealize.SL.Sem

/-- The reference runs to the end and leaves its arguments as they were. -/
theorem frame : Cert.quiescent_Reference17Ideal (hReference17Ideal := Cert.Reference17Ideal.Gen.facts) := by
  intro m g _
  hlo_run
  · exact fun _ => ⟨trivial, trivial⟩
  · exact sem_eq_zero_of_no_sems rfl _

/-- The kernel's array of results is the reference's. -/
theorem equal : Cert.algebraic_Kernel17Ideal_Reference17Ideal
    (hKernel17Ideal := Cert.Kernel17Ideal.Gen.facts)
    (hReference17Ideal := Cert.Reference17Ideal.Gen.facts) := by
  pair_intro
  · run_from Cert.Kernel17Ideal.Gen.run_main m g
  · hlo_run
    rw [Cert.Kernel17Ideal.Value.final]
    funext y
    pointwise [Cert.Kernel17Ideal.Value.prod]

end Cert.PoolU

end
-- ==== Proof.PoolOut.lean ====
module

public import proofs.«01_k».proof.Proof.Gen.Kernel18Ideal.Frame
public import Idealize.ShloMosaic.Lib.Pipeline.ValueKit
public import Idealize.ShloMosaic.Lib.Pointwise

/-! The pooling mixer's output added to its input. -/

@[expose] public section

set_option maxRecDepth 16384

noncomputable section

namespace Cert.Kernel18Ideal.Value

open Idealize.ShloMosaic Idealize.ShloMosaic.TcCoe Idealize.SL.Sem
open Cert.Kernel18Ideal Cert.Kernel18Ideal.Gen

variable (m : (ℓ : Loc nD τ sig) → Buf (Elt Ideal) ℓ)

/-- What the array of results holds: the input plus the product of the values and the weight. -/
def prod (x : FVec Ideal S2048x2048 .f32) (v : FVec Ideal S2048x2048 .f32) (w : FVec Ideal S1x2048x2048 .f32) : FVec Ideal S2048x2048 .f32 :=
  fun y => ((x y : EReal) + ∑ k : Fin 2048, (v (ix2 (y 0) k) : EReal) * (w (ix3 0 k (y 1)) : EReal) : EReal)

/-- The block each window reads or writes at a point of the grid. -/
theorem idx : ∀ t : Fin cfg0.N, win0_0.index t = ![t.val % 2, 0]
    ∧ win0_1.index t = ![0, 0, t.val / 2]
    ∧ win0_2.index t = ![t.val % 2, t.val / 2]
    ∧ win0_3.index t = ![t.val % 2, t.val / 2] :=
  (by decide +kernel : ∀ t : Fin grid0.N, _)

/-- What the body stores at a point is the block of that array there. -/
theorem point (c : Dev nD) (t : Fin cfg0.N) (y) :
    k0_pay1 (iblk m c 0 t) (iblk m c 1 t) (iblk m c 2 t) y
      = prod (m ((c : Thread nD τ).loc main_arg0)) (m ((c : Thread nD τ).loc main_arg1)) (m ((c : Thread nD τ).loc main_arg2))
          (((cfg0.win 3).blk t).view.emb y) := by
  pointwise [k0_pay1, prod]
  blk_point [iblk, V, idx t]

/-- After the run the array of results holds it. -/
theorem final (c : Dev nD) : (dats m 0 c).arrAt 3 (cfgs 0).N
    = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.Kernel18Ideal.Value

end
-- ==== Proof.PoolOutEq.lean ====
module

public import proofs.«01_k».proof.Defs
public import proofs.«01_k».proof.Proof.PoolOut
public import proofs.«01_k».proof.Proof.Gen.Reference18Ideal
public import Idealize.ShloMosaic.Lib.Claim
public import Idealize.ShloMosaic.Lib.Quiescent

/-! The pooling mixer's output added to its input: the kernel and the reference compute the same array. -/

@[expose] public section

set_option maxRecDepth 16384

noncomputable section

namespace Cert.PoolOut

open Idealize.ShloMosaic Idealize.SL.Sem

/-- The reference runs to the end and leaves its arguments as they were. -/
theorem frame : Cert.quiescent_Reference18Ideal (hReference18Ideal := Cert.Reference18Ideal.Gen.facts) := by
  intro m g _
  hlo_run
  · exact fun _ => ⟨trivial, trivial, trivial⟩
  · exact sem_eq_zero_of_no_sems rfl _

/-- The kernel's array of results is the reference's. -/
theorem equal : Cert.algebraic_Kernel18Ideal_Reference18Ideal
    (hKernel18Ideal := Cert.Kernel18Ideal.Gen.facts)
    (hReference18Ideal := Cert.Reference18Ideal.Gen.facts) := by
  pair_intro
  · run_from Cert.Kernel18Ideal.Gen.run_main m g
  · hlo_run
    rw [Cert.Kernel18Ideal.Value.final]
    funext y
    pointwise [Cert.Kernel18Ideal.Value.prod]

end Cert.PoolOut

end
-- ==== Proof.lean ====
/- The frames of all programs, the named mask constant and the equations of the calls, put together into the claim. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.ScanEq
public import proofs.«01_k».proof.Proof.ActEq
public import proofs.«01_k».proof.Proof.DwdEq
public import proofs.«01_k».proof.Proof.DwgEq
public import proofs.«01_k».proof.Proof.DhEq
public import proofs.«01_k».proof.Proof.SsdDwoutEq
public import proofs.«01_k».proof.Proof.SsdDynEq
public import proofs.«01_k».proof.Proof.SsdDwinEq
public import proofs.«01_k».proof.Proof.SsdDhnEq
public import proofs.«01_k».proof.Proof.PoolDwEq
public import proofs.«01_k».proof.Proof.PoolDvsEq
public import proofs.«01_k».proof.Proof.PoolDhnEq
public import proofs.«01_k».proof.Proof.FfnInEq
public import proofs.«01_k».proof.Proof.FfnOutEq
public import proofs.«01_k».proof.Proof.SsdProjEq
public import proofs.«01_k».proof.Proof.SsdOutEq
public import proofs.«01_k».proof.Proof.PoolUEq
public import proofs.«01_k».proof.Proof.PoolOutEq

@[expose] public section

noncomputable section

namespace Cert.Proof

open Idealize.ShloMosaic Idealize.SL.Sem

/-- Every program terminates with its arguments unchanged and every semaphore at zero; the scan's ideal
program differs from the printed one only in the named mask constant and computes, over the extended reals, the
gradient of the scan's output projections that its reference computes; and each of the other calls computes
the arrays its reference computes. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Pre_scan_finite.Gen.facts,
    Cert.Pre_finite.Gen.facts,
    fun m ρ _ => Cert.Kernel.Gen.frame m ρ,
    fun m ρ _ => Cert.KernelIdeal.Gen.frame m ρ,
    fun m ρ _ => Cert.KernelIdeal.Gen.frame m ρ,
    Cert.Scan.frame,
    Cert.Scan.frame_finite,
    fun m ρ _ => Cert.Kernel2.Gen.frame m ρ,
    fun m ρ _ => Cert.Kernel2Ideal.Gen.frame m ρ,
    fun m ρ _ => Cert.Kernel2Ideal.Gen.frame m ρ,
    Cert.Act.frame,
    Cert.Act.frame_finite,
    fun m ρ _ => Cert.Kernel3.Gen.frame m ρ,
    fun m ρ _ => Cert.Kernel3Ideal.Gen.frame m ρ,
    Cert.Dwd.frame,
    fun m ρ _ => Cert.Kernel4.Gen.frame m ρ,
    fun m ρ _ => Cert.Kernel4Ideal.Gen.frame m ρ,
    Cert.Dwg.frame,
    fun m ρ _ => Cert.Kernel5.Gen.frame m ρ,
    fun m ρ _ => Cert.Kernel5Ideal.Gen.frame m ρ,
    Cert.Dh.frame,
    fun m ρ _ => Cert.Kernel6.Gen.frame m ρ,
    fun m ρ _ => Cert.Kernel6Ideal.Gen.frame m ρ,
    Cert.SsdDwout.frame,
    fun m ρ _ => Cert.Kernel7.Gen.frame m ρ,
    fun m ρ _ => Cert.Kernel7Ideal.Gen.frame m ρ,
    Cert.SsdDyn.frame,
    fun m ρ _ => Cert.Kernel8.Gen.frame m ρ,
    fun m ρ _ => Cert.Kernel8Ideal.Gen.frame m ρ,
    Cert.SsdDwin.frame,
    fun m ρ _ => Cert.Kernel9.Gen.frame m ρ,
    fun m ρ _ => Cert.Kernel9Ideal.Gen.frame m ρ,
    Cert.SsdDhn.frame,
    fun m ρ _ => Cert.Kernel10.Gen.frame m ρ,
    fun m ρ _ => Cert.Kernel10Ideal.Gen.frame m ρ,
    Cert.PoolDw.frame,
    fun m ρ _ => Cert.Kernel11.Gen.frame m ρ,
    fun m ρ _ => Cert.Kernel11Ideal.Gen.frame m ρ,
    Cert.PoolDvs.frame,
    fun m ρ _ => Cert.Kernel12.Gen.frame m ρ,
    fun m ρ _ => Cert.Kernel12Ideal.Gen.frame m ρ,
    Cert.PoolDhn.frame,
    fun m ρ _ => Cert.Kernel13.Gen.frame m ρ,
    fun m ρ _ => Cert.Kernel13Ideal.Gen.frame m ρ,
    Cert.FfnIn.frame,
    fun m ρ _ => Cert.Kernel14.Gen.frame m ρ,
    fun m ρ _ => Cert.Kernel14Ideal.Gen.frame m ρ,
    Cert.FfnOut.frame,
    fun m ρ _ => Cert.Kernel15.Gen.frame m ρ,
    fun m ρ _ => Cert.Kernel15Ideal.Gen.frame m ρ,
    Cert.SsdProj.frame,
    fun m ρ _ => Cert.Kernel16.Gen.frame m ρ,
    fun m ρ _ => Cert.Kernel16Ideal.Gen.frame m ρ,
    Cert.SsdOut.frame,
    fun m ρ _ => Cert.Kernel17.Gen.frame m ρ,
    fun m ρ _ => Cert.Kernel17Ideal.Gen.frame m ρ,
    Cert.PoolU.frame,
    fun m ρ _ => Cert.Kernel18.Gen.frame m ρ,
    fun m ρ _ => Cert.Kernel18Ideal.Gen.frame m ρ,
    Cert.PoolOut.frame,
    IdealRules.named_const.statement Cert.KernelIdeal.κ "mask" .f32 0xF149F2CA#32 ⊥ rfl,
    Cert.Scan.equal,
    trivial,
    Cert.Act.equal,
    trivial,
    Cert.Dwd.equal,
    trivial,
    Cert.Dwg.equal,
    trivial,
    Cert.Dh.equal,
    trivial,
    Cert.SsdDwout.equal,
    trivial,
    Cert.SsdDyn.equal,
    trivial,
    Cert.SsdDwin.equal,
    trivial,
    Cert.SsdDhn.equal,
    trivial,
    Cert.PoolDw.equal,
    trivial,
    Cert.PoolDvs.equal,
    trivial,
    Cert.PoolDhn.equal,
    trivial,
    Cert.FfnIn.equal,
    trivial,
    Cert.FfnOut.equal,
    trivial,
    Cert.SsdProj.equal,
    trivial,
    Cert.SsdOut.equal,
    trivial,
    Cert.PoolU.equal,
    trivial,
    Cert.PoolOut.equal⟩

end Cert.Proof

end
